-- ==== Defs.lean ====
def Pre_Kernel (m : (ℓ : Loc Cert.Kernel.nD Cert.Kernel.τ Cert.Kernel.sig) → Buf (Elt Bits) ℓ) : Prop :=
  True

def Pre_Kernel_distinct_top [hPre_distinct_top : Cert.Pre_distinct_top.Facts] (m : (ℓ : Loc Cert.Kernel.nD Cert.Kernel.τ Cert.Kernel.sig) → Buf (Elt Bits) ℓ) : Prop :=
  ∀ c : Dev Cert.Kernel.nD,
    (Cert.Pre_distinct_top.fn (F := Bits) (m ((c.tc : Thread Cert.Kernel.nD Cert.Kernel.τ).loc Cert.Kernel.main_arg0))) = (fun _ => 1#1)

def Pre_KernelIdeal [hPre_distinct_top : Cert.Pre_distinct_top.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_top.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_top [hPre_distinct_top : Cert.Pre_distinct_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_top.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_distinct_top [hKernel : Cert.Kernel.Facts] [hPre_distinct_top : Cert.Pre_distinct_top.Facts] : Prop :=
  ∀ (m : (ℓ : Loc Cert.Kernel.nD Cert.Kernel.τ Cert.Kernel.sig) → Buf (Elt Bits) ℓ) (g : Dev Cert.Kernel.nD → PrngReg), Pre_Kernel_distinct_top m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_distinct_top : Cert.Pre_distinct_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_distinct_top [hReferenceIdeal : Cert.ReferenceIdeal.Facts] [hPre_distinct_top : Cert.Pre_distinct_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_distinct_top : Cert.Pre_distinct_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_distinct_top : Cert.Pre_distinct_top.Facts),
    quiescent_Kernel (hKernel := hKernel)
    ∧ quiescent_Kernel_pre_distinct_top (hKernel := hKernel) (hPre_distinct_top := hPre_distinct_top)
    ∧ quiescent_KernelIdeal (hKernelIdeal := hKernelIdeal) (hPre_distinct_top := hPre_distinct_top)
    ∧ quiescent_ReferenceIdeal (hReferenceIdeal := hReferenceIdeal)
    ∧ quiescent_ReferenceIdeal_pre_distinct_top (hReferenceIdeal := hReferenceIdeal) (hPre_distinct_top := hPre_distinct_top)
    ∧ preserves_Kernel_KernelIdeal
    ∧ algebraic_KernelIdeal_ReferenceIdeal (hKernelIdeal := hKernelIdeal) (hReferenceIdeal := hReferenceIdeal) (hPre_distinct_top := hPre_distinct_top)
-- ==== Pre_distinct_top.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S8192x11 : Shape := ⟨2, ![8192, 11]⟩
abbrev S8192x10 : Shape := ⟨2, ![8192, 10]⟩

class Facts : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  sliceFits_S8192x8192_S8192x11 : S8192x8192.Slices (fun _ => 0) S8192x11
  slices_S8192x11_S8192x10_0_0 : S8192x11.Slices ![0, 0] S8192x10
  slices_S8192x11_S8192x10_0_1 : S8192x11.Slices ![0, 1] S8192x10
  dot_S8192x256_S256x8192_S8192x8192_1_0_0_1_n_n_wf : DotDims.WF S8192x256 S256x8192 S8192x8192 [1] [0] [0] [1] [] []

variable [Facts]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def fn {F : FTy → Type} [FloatOps F] (main_arg0 : FVec F S8192x256 .f32) : IVec S8192x10 1 :=
  let main_v0 : FVec F S8192x256 .f32 := mulf main_arg0 main_arg0
  let main_cst : FVec F S_ .f32 := constant S_ .f32 0x00000000#32
  let main_v1 : FVec F S8192 .f32 := (fun x v => Host.reduceAdd x v reducesTo_S8192x256_S8192_d1 h_S_) main_v0 main_cst
  let main_v2 : FVec F S8192x1 .f32 := broadcastInDim S8192x1 ![0] bcast_S8192_S8192x1_0 main_v1
  let main_v3 : FVec F S8192x1 .f32 := Host.sqrt main_v2
  let main_v4 : FVec F S8192x256 .f32 := broadcastInDim S8192x256 ![0, 1] bcast_S8192x1_S8192x256_0_1 main_v3
  let main_v5 : FVec F S8192x256 .f32 := Host.divf main_arg0 main_v4
  let main_v6 : FVec F S256x8192 .f32 := (transpose S256x8192 [1, 0] · transposes_S8192x256_S256x8192_1_0) main_v5
  let main_v7 : FVec F S8192x8192 .f32 := (fun l r => Host.dotGeneral dot_S8192x256_S256x8192_S8192x8192_1_0_0_1_n_n none l r) main_v5 main_v6
  let main_values : FVec F S8192x11 .f32 := (fun x => (Host.topK S8192x11 1 (FloatOps.cmpfTotal .gt) x sliceFits_S8192x8192_S8192x11).1) main_v7
  let main_indices : IVec S8192x11 32 := (fun x => (Host.topK S8192x11 1 (FloatOps.cmpfTotal .gt) x sliceFits_S8192x8192_S8192x11).2) main_v7
  let main_v8 : FVec F S8192x10 .f32 := (extractStridedSlice S8192x10 ![0, 0] · slices_S8192x11_S8192x10_0_0) main_values
  let main_v9 : FVec F S8192x10 .f32 := (extractStridedSlice S8192x10 ![0, 1] · slices_S8192x11_S8192x10_0_1) main_values
  let main_v10 : IVec S8192x10 1 := cmpf .ogt main_v8 main_v9
  main_v10
-- ==== Kernel.lean ====
abbrev S8192x256 : Shape := ⟨2, ![8192, 256]⟩
abbrev S8192x10 : Shape := ⟨2, ![8192, 10]⟩
abbrev S8192 : Shape := ⟨1, ![8192]⟩
abbrev S8192x1 : Shape := ⟨2, ![8192, 1]⟩
abbrev S81920 : Shape := ⟨1, ![81920]⟩
abbrev S1x81920 : Shape := ⟨2, ![1, 81920]⟩
abbrev S2x81920 : Shape := ⟨2, ![2, 81920]⟩
abbrev S256x10 : Shape := ⟨2, ![256, 10]⟩
abbrev S256x256 : Shape := ⟨2, ![256, 256]⟩
abbrev S256x128 : Shape := ⟨2, ![256, 128]⟩
abbrev S512x256 : Shape := ⟨2, ![512, 256]⟩
abbrev S256x512 : Shape := ⟨2, ![256, 512]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S256x8192 : Shape := ⟨2, ![256, 8192]⟩

abbrev nBuf : Space → Nat
  | .hbm => 12
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x10, .i32⟩
  | .hbm, ⟨2, _⟩ => ⟨S8192x10, .f32⟩
  | .hbm, ⟨3, _⟩ => ⟨S8192, .i32⟩
  | .hbm, ⟨4, _⟩ => ⟨S8192x1, .i32⟩
  | .hbm, ⟨5, _⟩ => ⟨S8192x10, .i32⟩
  | .hbm, ⟨6, _⟩ => ⟨S81920, .i32⟩
  | .hbm, ⟨7, _⟩ => ⟨S81920, .i32⟩
  | .hbm, ⟨8, _⟩ => ⟨S1x81920, .i32⟩
  | .hbm, ⟨9, _⟩ => ⟨S1x81920, .i32⟩
  | .hbm, ⟨10, _⟩ => ⟨S2x81920, .i32⟩
  | .hbm, ⟨11, _⟩ => ⟨S81920, .f32⟩
  | .local _ .vmem, ⟨0, _⟩ => ⟨S8192x256, .f32⟩
  | .local _ .vmem, ⟨1, _⟩ => ⟨S256x10, .i32⟩
  | .local _ .vmem, ⟨2, _⟩ => ⟨S256x10, .i32⟩
  | .local _ .vmem, ⟨3, _⟩ => ⟨S256x10, .f32⟩
  | .local _ .vmem, ⟨4, _⟩ => ⟨S256x10, .f32⟩
  | .local _ .vmem, ⟨5, _⟩ => ⟨S8192x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_call0_v0_0 : Ref sig .tc := ⟨.hbm, 1, rfl⟩
abbrev main_call0_v0_1 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v3 : BitVec 32 := Scalar.muli arg0 c256_i32
  v3
def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x10 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S8192x10 : Shape := ⟨2, ![8192, 10]⟩
abbrev S81920 : Shape := ⟨1, ![81920]⟩
abbrev S1x81920 : Shape := ⟨2, ![1, 81920]⟩
abbrev S2x81920 : Shape := ⟨2, ![2, 81920]⟩
abbrev S81920x1 : Shape := ⟨2, ![81920, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S8192x256, .f32⟩
  | .hbm, ⟨7, _⟩ => ⟨S8192x256, .f32⟩
  | .hbm, ⟨8, _⟩ => ⟨S256x8192, .f32⟩
  | .hbm, ⟨9, _⟩ => ⟨S8192x8192, .f32⟩
  | .hbm, ⟨10, _⟩ => ⟨S8192x10, .f32⟩
  | .hbm, ⟨11, _⟩ => ⟨S8192x10, .i32⟩
  | .hbm, ⟨12, _⟩ => ⟨S8192, .i32⟩
  | .hbm, ⟨13, _⟩ => ⟨S8192x1, .i32⟩
  | .hbm, ⟨14, _⟩ => ⟨S8192x10, .i32⟩
  | .hbm, ⟨15, _⟩ => ⟨S81920, .i32⟩
  | .hbm, ⟨16, _⟩ => ⟨S81920, .i32⟩
  | .hbm, ⟨17, _⟩ => ⟨S1x81920, .i32⟩
  | .hbm, ⟨18, _⟩ => ⟨S1x81920, .i32⟩
  | .hbm, ⟨19, _⟩ => ⟨S2x81920, .i32⟩
  | .hbm, ⟨20, _⟩ => ⟨S_, .f32⟩
  | .hbm, ⟨21, _⟩ => ⟨S81920, .f32⟩
  | .hbm, ⟨22, _⟩ => ⟨S_, .f32⟩
  | .hbm, ⟨23, _⟩ => ⟨S8192, .f32⟩
  | .hbm, ⟨24, _⟩ => ⟨S81920x1, .i32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .i32⟩
  | .hbm, ⟨33, _⟩ => ⟨S81920, .i32⟩
  | .hbm, ⟨34, _⟩ => ⟨S81920, .i1⟩
  | .hbm, ⟨35, _⟩ => ⟨S_, .i32⟩
  | .hbm, ⟨36, _⟩ => ⟨S81920, .i32⟩
  | .hbm, ⟨37, _⟩ => ⟨S81920, .i32⟩
  | .hbm, ⟨38, _⟩ => ⟨S81920, .i32⟩
  | .hbm, ⟨39, _⟩ => ⟨S81920x1, .i32⟩
  | .hbm, ⟨40, _⟩ => ⟨S81920, .f32⟩
  | .hbm, ⟨41, _⟩ => ⟨S_, .i32⟩
  | .hbm, ⟨42, _⟩ => ⟨S81920, .i32⟩
  | .hbm, ⟨43, _⟩ => ⟨S81920, .i1⟩
  | .hbm, ⟨44, _⟩ => ⟨S_, .i32⟩
  | .hbm, ⟨45, _⟩ => ⟨S81920, .i32⟩
  | .hbm, ⟨46, _⟩ => ⟨S81920, .i32⟩
  | .hbm, ⟨47, _⟩ => ⟨S81920, .i32⟩
  | .hbm, ⟨48, _⟩ => ⟨S81920x1, .i32⟩
  | .hbm, ⟨49, _⟩ => ⟨S81920, .f32⟩
  | .hbm, ⟨50, _⟩ => ⟨S81920, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_values : Ref sig .tc := ⟨.hbm, 10, rfl⟩
abbrev main_indices : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Proof.Closed.lean ====
module

public import proofs.«01_k».proof.Proof.Gen.KernelIdeal
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # What the body computes, in short recursive form

The printed body is unrolled: sixty-four groups of lanes inserted into four running values per lane, ten extraction
steps, and (on the slow path) ten rounds of argmax and masking. Here each of the three is one step function iterated. -/

/-- The running state of the lane pass: the four largest values of each lane so far, largest first, and the group numbers of
    the first three. -/
structure Lanes (F : FTy → Type) where
  c1 : FVec F S256x128 .f32
  c2 : FVec F S256x128 .f32
  c3 : FVec F S256x128 .f32
  c4 : FVec F S256x128 .f32
  g1 : IVec S256x128 32
  g2 : IVec S256x128 32
  g3 : IVec S256x128 32

/-- Minus infinity in every lane. -/
def ninf : FVec F S256x128 .f32 := broadcast S256x128 (Scalar.ofBits .f32 0xFF800000#32)

/-- No group seen: every value minus infinity, every group number zero. -/
def Lanes.init : Lanes F where
  c1 := ninf
  c2 := ninf
  c3 := ninf
  c4 := ninf
  g1 := broadcast S256x128 0#32
  g2 := broadcast S256x128 0#32
  g3 := broadcast S256x128 0#32

/-- One group of lanes inserted. -/
def Lanes.push (g : BitVec 32) (v : FVec F S256x128 .f32) (L : Lanes F) : Lanes F where
  c1 := select (cmpf .ogt v L.c1) v L.c1
  c2 := select (cmpf .ogt v L.c1) L.c1 (select (cmpf .ogt v L.c2) v L.c2)
  c3 := select (cmpf .ogt v L.c2) L.c2 (select (cmpf .ogt v L.c3) v L.c3)
  c4 := select (cmpf .ogt v L.c3) L.c3 (select (cmpf .ogt v L.c4) v L.c4)
  g1 := select (cmpf .ogt v L.c1) (broadcast S256x128 g) L.g1
  g2 := select (cmpf .ogt v L.c1) L.g1 (select (cmpf .ogt v L.c2) (broadcast S256x128 g) L.g2)
  g3 := select (cmpf .ogt v L.c2) L.g2 (select (cmpf .ogt v L.c3) (broadcast S256x128 g) L.g3)

/-- A block of rows against a panel of columns: every pair's product sum. -/
def tile (v6 : Vec F S256x256 .f32) (p : Vec F S512x256 .f32) : FVec F S256x512 .f32 :=
  matmul dot_S256x256_S512x256_S256x512_1_1_0_0_n_n none v6 p (constant S256x512 .f32 0x00000000#32)

theorem slices_at (q : Fin 4) : S256x512.Slices ![0, 128 * q.val] S256x128 := by
  revert q; decide

/-- One of a panel's four groups of lanes. -/
def group (q : Fin 4) (t : FVec F S256x512 .f32) : FVec F S256x128 .f32 :=
  extractStridedSlice S256x128 ![0, 128 * q.val] t (slices_at q)

/-- The lane pass after `n` groups, four to a panel. -/
def lanes (v6 : Vec F S256x256 .f32) (p : Fin 16 → Vec F S512x256 .f32) : ℕ → Lanes F
  | 0 => Lanes.init
  | n + 1 => Lanes.push (BitVec.ofNat 32 n)
      (group (Fin.ofNat 4 n) (tile v6 (p (Fin.ofNat 16 (n / 4))))) (lanes v6 p n)

/-- The state of the extraction: per lane, the remaining values largest first, and the columns they came from. -/
structure Ext (F : FTy → Type) where
  c1 : FVec F S256x128 .f32
  c2 : FVec F S256x128 .f32
  c3 : FVec F S256x128 .f32
  i1 : IVec S256x128 32
  i2 : IVec S256x128 32
  i3 : IVec S256x128 32

/-- The column of a lane of a group. -/
def colOf (g : IVec S256x128 32) : IVec S256x128 32 :=
  addi (muli g (broadcast S256x128 128#32)) (iota .tc S256x128 32 [1] iota_S256x128_d1_w32)

def Ext.init (L : Lanes F) : Ext F where
  c1 := L.c1
  c2 := L.c2
  c3 := L.c3
  i1 := colOf L.g1
  i2 := colOf L.g2
  i3 := colOf L.g3

/-- Each row's largest value of a lane vector. -/
def rowMax (c : FVec F S256x128 .f32) : FVec F S256 .f32 :=
  multiReduction .maximumf [1] S256 c 0xFF800000#32 reduces_S256x128_S256 (.inl rfl) rfl

/-- Each row's least column among the lanes that hold the row's largest value. -/
def Ext.pick (e : Ext F) : IVec S256x1 32 :=
  shapeCast S256x1
    (multiReductionI .minsi [1] S256
      (select (cmpf .oeq e.c1 (broadcastTo S256x128 (shapeCast S256x1 (rowMax e.c1) shapeCasts_S256_S256x1) broadcasts_S256x1_S256x128))
        e.i1 (broadcast S256x128 8192#32))
      2147483647#32 reduces_S256x128_S256 rfl)
    shapeCasts_S256_S256x1

/-- The lanes that hold the picked column. -/
def Ext.hit (e : Ext F) : IVec S256x128 1 := cmpi .eq e.i1 (broadcastTo S256x128 e.pick broadcasts_S256x1_S256x128)

/-- The picked column's lane moves its next value up. -/
def Ext.next (e : Ext F) : Ext F where
  c1 := select e.hit e.c2 e.c1
  c2 := select e.hit e.c3 e.c2
  c3 := select e.hit ninf e.c3
  i1 := select e.hit e.i2 e.i1
  i2 := select e.hit e.i3 e.i2
  i3 := e.i3

def ext (L : Lanes F) : ℕ → Ext F
  | 0 => Ext.init L
  | n + 1 => (ext L n).next

/-- Ten columns side by side. -/
def tenCols (f : ℕ → IVec S256x1 32) : IVec S256x10 32 :=
  concatenate S256x10 1 [⟨S256x1, f 0⟩, ⟨S256x1, f 1⟩, ⟨S256x1, f 2⟩, ⟨S256x1, f 3⟩, ⟨S256x1, f 4⟩, ⟨S256x1, f 5⟩,
    ⟨S256x1, f 6⟩, ⟨S256x1, f 7⟩, ⟨S256x1, f 8⟩, ⟨S256x1, f 9⟩]
    concatenates_S256x1_S256x1_S256x1_S256x1_S256x1_S256x1_S256x1_S256x1_S256x1_S256x1_S256x10_d1

/-- The fast path's ten columns. -/
def fast (L : Lanes F) : IVec S256x10 32 := tenCols fun k => (ext L k).pick

/-- The word the body tests: one where some row's fourth value is no smaller than its tenth largest. -/
def badWord (L : Lanes F) : BitVec 1 :=
  Scalar.cmpi .ne
    (Scalar.extui
      (Scalar.cmpf .ogt
        (extractAt ![0, 0, 0]
          (shapeCast S1x1x1
            (multiReduction .add [1, 2] S1
              (shapeCast S1x256x1
                (select
                  (cmpf .oge (shapeCast S256x1 (rowMax L.c4) shapeCasts_S256_S256x1)
                    (shapeCast S256x1 (rowMax (ext L 9).c1) shapeCasts_S256_S256x1))
                  (broadcast S256x1 (Scalar.ofBits (F := F) .f32 0x3F800000#32))
                  (broadcast S256x1 (Scalar.ofBits (F := F) .f32 0x00000000#32)))
                shapeCasts_S256x1_S1x256x1)
              0x00000000#32 reduces_S1x256x1_S1 (.inl rfl) rfl)
            shapeCasts_S1_S1x1x1)
          inpos_S1x1x1_p0_0_0)
        (Scalar.ofBits (F := F) .f32 0x00000000#32)))
    0#32

/-- All columns of a block of rows, the sixteen panels side by side. -/
def wide (v6 : Vec F S256x256 .f32) (p : Fin 16 → Vec F S512x256 .f32) : FVec F S256x8192 .f32 :=
  concatenate S256x8192 1 [⟨S256x512, tile v6 (p 0)⟩, ⟨S256x512, tile v6 (p 1)⟩, ⟨S256x512, tile v6 (p 2)⟩,
    ⟨S256x512, tile v6 (p 3)⟩, ⟨S256x512, tile v6 (p 4)⟩, ⟨S256x512, tile v6 (p 5)⟩, ⟨S256x512, tile v6 (p 6)⟩,
    ⟨S256x512, tile v6 (p 7)⟩, ⟨S256x512, tile v6 (p 8)⟩, ⟨S256x512, tile v6 (p 9)⟩, ⟨S256x512, tile v6 (p 10)⟩,
    ⟨S256x512, tile v6 (p 11)⟩, ⟨S256x512, tile v6 (p 12)⟩, ⟨S256x512, tile v6 (p 13)⟩, ⟨S256x512, tile v6 (p 14)⟩,
    ⟨S256x512, tile v6 (p 15)⟩] concatenates_S256x512_S256x512_S256x512_S256x512_S256x512_S256x512_S256x512_S256x512_S256x512_S256x512_S256x512_S256x512_S256x512_S256x512_S256x512_S256x512_S256x8192_d1

/-- Each row's column of the largest entry. -/
def argCol (x : FVec F S256x8192 .f32) : IVec S256x1 32 :=
  shapeCast S256x1 (reduceIndex .argMax 1 S256 x reduces_S256x8192_S256) shapeCasts_S256_S256x1

/-- The rows with the first `n` columns of largest entries masked out, one by one. -/
def masked (x : FVec F S256x8192 .f32) : ℕ → FVec F S256x8192 .f32
  | 0 => x
  | n + 1 => select
      (cmpi .eq (iota .tc S256x8192 32 [1] iota_S256x8192_d1_w32)
        (broadcastTo S256x8192 (argCol (masked x n)) broadcasts_S256x1_S256x8192))
      (broadcast S256x8192 (Scalar.ofBits .f32 0xFF800000#32)) (masked x n)

/-- The slow path's ten columns. -/
def slow (x : FVec F S256x8192 .f32) : IVec S256x10 32 := tenCols fun k => argCol (masked x k)

/-- The block of columns a grid point leaves. -/
def cols (v6 : Vec F S256x256 .f32) (p : Fin 16 → Vec F S512x256 .f32) : IVec S256x10 32 :=
  if badWord (lanes v6 p 64) = 1#1 then slow (wide v6 p) else fast (lanes v6 p 64)

/-- The rows of a grid point within the scratch. -/
def rowsOf (i : grid0.Coords) (s : Vec F S8192x256 .f32) : Vec F S256x256 .f32 :=
  fun y => s ((Rect.unit (s := S8192x256) (k0_off1 i) S256x256.size (k0_off1_inb i)).toLoadRect.idx y)

theorem panel_inb (k : Fin 16) : ∀ a, (![512 * k.val, 0] : Fin 2 → ℕ) a + S512x256.size a ≤ S8192x256.size a := by
  revert k; decide

/-- A panel of the scratch. -/
def panelOf (s : Vec F S8192x256 .f32) (k : Fin 16) : Vec F S512x256 .f32 :=
  fun y => s ((Rect.unit (s := S8192x256) ![512 * k.val, 0] S512x256.size (panel_inb k)).toLoadRect.idx y)

/-- The values block: one constant. -/
def vals : FVec F S256x10 .f32 := k0_pay1 (Scalar.ofBits .f32 869711765#32)

end Cert.KernelIdeal.Hand

end
-- ==== Proof.TopMath.lean ====
module

public import Mathlib.Data.EReal.Basic
public import Mathlib.Order.BoundedOrder.Basic
public import Mathlib.Order.BoundedOrder.Lattice
public import Mathlib.Order.MinMax
public import Idealize.ShloMosaic.Instance

@[expose] public section

namespace Cert.Top

variable {α : Type} [LinearOrder α] [OrderBot α]

/-! # The largest entries of a row

`IsTop s N K p`: the columns `p 0, …, p (K - 1)` are distinct, below `N`, and each holds an entry no smaller than every entry
not listed before it. -/

def IsTop (s : ℕ → α) (N K : ℕ) (p : ℕ → ℕ) : Prop :=
  ∀ k < K, p k < N ∧ (∀ i < k, p i ≠ p k) ∧ ∀ j < N, (∀ i < k, p i ≠ j) → s j ≤ s (p k)

/-- The entries listed strictly decrease: then the list is the only one. -/
def Strict (s : ℕ → α) (K : ℕ) (q : ℕ → ℕ) : Prop := ∀ k < K, s (q (k + 1)) < s (q k)

/-- One position: agreeing before it, the columns agree at it. -/
theorem step_eq {s : ℕ → α} {N K : ℕ} {p q : ℕ → ℕ} (hq : IsTop s N (K + 1) q) (hs : Strict s K q) {k : ℕ} (hk : k < K)
    (hp1 : p k < N) (hp2 : ∀ i < k, p i ≠ p k) (hp3 : ∀ j < N, (∀ i < k, p i ≠ j) → s j ≤ s (p k))
    (ih : ∀ i < k, p i = q i) : p k = q k := by
  by_contra hne
  have h1 : s (q k) ≤ s (p k) := hp3 _ (hq k (by omega)).1 fun i hi => by
    rw [ih i hi]; exact (hq k (by omega)).2.1 i hi
  have h2 : s (p k) ≤ s (q (k + 1)) := (hq (k + 1) (by omega)).2.2 _ hp1 fun i hi => by
    rcases Nat.lt_succ_iff_lt_or_eq.mp hi with h | h
    · rw [← ih i h]; exact hp2 i h
    · subst h; exact fun h => hne h.symm
  exact absurd (lt_of_le_of_lt (h1.trans h2) (hs k hk)) (lt_irrefl _)

theorem IsTop.unique {s : ℕ → α} {N K : ℕ} {p q : ℕ → ℕ} (hq : IsTop s N (K + 1) q) (hs : Strict s K q) (hp : IsTop s N K p) :
    ∀ k < K, p k = q k := by
  intro k
  induction k using Nat.strong_induction_on with
  | _ k ih =>
    intro hk
    exact step_eq hq hs hk (hp k hk).1 (hp k hk).2.1 (hp k hk).2.2 fun i hi => ih i hi (hi.trans hk)

/-! ## Taking the largest and masking it out -/

/-- The row with the columns listed so far masked out. -/
theorem mask_apply {s : ℕ → α} {N K : ℕ} {p : ℕ → ℕ} {x : ℕ → ℕ → α} (h0 : ∀ j < N, x 0 j = s j)
    (hx : ∀ k < K, ∀ j < N, x (k + 1) j = if j = p k then ⊥ else x k j) :
    ∀ k ≤ K, ∀ j < N, x k j = if ∃ i < k, p i = j then ⊥ else s j := by
  intro k
  induction k with
  | zero => intro _ j hj; simp [h0 j hj]
  | succ k ih =>
    intro hk j hj
    rw [hx k (by omega) j hj, ih (by omega) j hj]
    by_cases h1 : j = p k
    · rw [if_pos h1, if_pos ⟨k, by omega, h1.symm⟩]
    · rw [if_neg h1]
      by_cases h2 : ∃ i < k, p i = j
      · obtain ⟨i, hi, e⟩ := h2
        rw [if_pos ⟨i, hi, e⟩, if_pos ⟨i, by omega, e⟩]
      · rw [if_neg h2, if_neg]
        rintro ⟨i, hi, e⟩
        rcases Nat.lt_succ_iff_lt_or_eq.mp hi with h | h
        · exact h2 ⟨i, h, e⟩
        · subst h; exact h1 e.symm

/-- Repeatedly taking a largest entry and masking it out lists the row's largest entries, when those strictly decrease. -/
theorem mask_eq {s : ℕ → α} {N K : ℕ} {p q : ℕ → ℕ} {x : ℕ → ℕ → α} (hq : IsTop s N (K + 1) q) (hs : Strict s K q)
    (h0 : ∀ j < N, x 0 j = s j) (hx : ∀ k < K, ∀ j < N, x (k + 1) j = if j = p k then ⊥ else x k j)
    (hp : ∀ k < K, p k < N ∧ ∀ j < N, x k j ≤ x k (p k)) : ∀ k < K, p k = q k := by
  intro k
  induction k using Nat.strong_induction_on with
  | _ k ih =>
    intro hk
    have hm := mask_apply h0 hx k hk.le
    have ih' : ∀ i < k, p i = q i := fun i hi => ih i hi (hi.trans hk)
    have hqk := (hq k (by omega)).1
    have hbot : ⊥ < s (q k) := lt_of_le_of_lt bot_le (hs k hk)
    have hxq : x k (q k) = s (q k) := by
      rw [hm _ hqk, if_neg]
      rintro ⟨i, hi, e⟩
      exact (hq k (by omega)).2.1 i hi ((ih' i hi).symm.trans e)
    have hge : s (q k) ≤ x k (p k) := hxq ▸ (hp k hk).2 _ hqk
    have hnew : ¬ ∃ i < k, p i = p k := fun h => by
      rw [hm _ (hp k hk).1, if_pos h] at hge
      exact absurd (lt_of_lt_of_le hbot hge) (lt_irrefl _)
    have hxp : x k (p k) = s (p k) := by rw [hm _ (hp k hk).1, if_neg hnew]
    refine step_eq hq hs hk (hp k hk).1 (fun i hi e => hnew ⟨i, hi, e⟩) (fun j hj hn => ?_) ih'
    rw [← hxp]
    refine le_trans (le_of_eq ?_) ((hp k hk).2 j hj)
    rw [hm j hj, if_neg]
    rintro ⟨i, hi, e⟩
    exact hn i hi e

/-! ## One lane: the four largest of the entries pushed -/

structure Lane (α : Type) where
  c1 : α
  c2 : α
  c3 : α
  c4 : α
  g1 : ℕ
  g2 : ℕ
  g3 : ℕ

def Lane.push (n : ℕ) (v : α) (L : Lane α) : Lane α where
  c1 := if L.c1 < v then v else L.c1
  c2 := if L.c1 < v then L.c1 else if L.c2 < v then v else L.c2
  c3 := if L.c2 < v then L.c2 else if L.c3 < v then v else L.c3
  c4 := if L.c3 < v then L.c3 else if L.c4 < v then v else L.c4
  g1 := if L.c1 < v then n else L.g1
  g2 := if L.c1 < v then L.g1 else if L.c2 < v then n else L.g2
  g3 := if L.c2 < v then L.g2 else if L.c3 < v then n else L.g3

/-- After `n` entries: the first three values are entries at distinct positions where they are not bottom, and every other
    entry is at most the fourth. -/
structure Lane.Good (v : ℕ → α) (n : ℕ) (L : Lane α) : Prop where
  o12 : L.c2 ≤ L.c1
  o23 : L.c3 ≤ L.c2
  o34 : L.c4 ≤ L.c3
  b1 : L.g1 < n ∨ L.g1 = 0
  b2 : L.g2 < n ∨ L.g2 = 0
  b3 : L.g3 < n ∨ L.g3 = 0
  h1 : L.c1 ≠ ⊥ → L.g1 < n ∧ v L.g1 = L.c1
  h2 : L.c2 ≠ ⊥ → L.g2 < n ∧ v L.g2 = L.c2 ∧ L.g2 ≠ L.g1
  h3 : L.c3 ≠ ⊥ → L.g3 < n ∧ v L.g3 = L.c3 ∧ L.g3 ≠ L.g1 ∧ L.g3 ≠ L.g2
  all : ∀ x < n, (L.c1 ≠ ⊥ ∧ x = L.g1) ∨ (L.c2 ≠ ⊥ ∧ x = L.g2) ∨ (L.c3 ≠ ⊥ ∧ x = L.g3) ∨ v x ≤ L.c4

theorem Lane.good_init (v : ℕ → α) : Lane.Good v 0 ⟨⊥, ⊥, ⊥, ⊥, 0, 0, 0⟩ := by
  constructor <;> simp

theorem ne_bot_of_lt' {a b : α} (h : a < b) : b ≠ ⊥ := fun e => by subst e; exact absurd h not_lt_bot

theorem ne_bot_of_le' {a b : α} (h : a ≤ b) (ha : a ≠ ⊥) : b ≠ ⊥ := fun e => by subst e; exact ha (le_bot_iff.mp h)

theorem Lane.Good.push {v : ℕ → α} {n : ℕ} {L : Lane α} (h : L.Good v n) : (L.push n (v n)).Good v (n + 1) := by
  obtain ⟨o12, o23, o34, b1, b2, b3, h1, h2, h3, all⟩ := h
  have n1 : ∀ {g : ℕ}, g < n → n ≠ g := fun h e => by omega
  by_cases k1 : L.c1 < v n
  · have k2 : L.c2 < v n := lt_of_le_of_lt o12 k1
    have k3 : L.c3 < v n := lt_of_le_of_lt o23 k2
    simp only [Lane.push, if_pos k1, if_pos k2, if_pos k3]
    refine ⟨k1.le, o12, o23, by dsimp only; omega, by dsimp only; omega, by dsimp only; omega, fun _ => ⟨by dsimp only; omega, rfl⟩,
      fun e => ⟨by dsimp only; have := (h1 e).1; omega, (h1 e).2, by dsimp only; have := (h1 e).1; omega⟩,
      fun e => ⟨by dsimp only; have := (h2 e).1; omega, (h2 e).2.1, by dsimp only; have := (h2 e).1; omega, (h2 e).2.2⟩, fun x hx => ?_⟩
    rcases Nat.lt_succ_iff_lt_or_eq.mp hx with hx | rfl
    · rcases all x hx with a | a | a | a
      · exact .inr (.inl a)
      · exact .inr (.inr (.inl a))
      · exact .inr (.inr (.inr (by rw [a.2, (h3 a.1).2.1])))
      · exact .inr (.inr (.inr (a.trans o34)))
    · exact .inl ⟨ne_bot_of_lt' k1, rfl⟩
  · by_cases k2 : L.c2 < v n
    · have k3 : L.c3 < v n := lt_of_le_of_lt o23 k2
      have e1 := ne_bot_of_le' (not_lt.mp k1) (ne_bot_of_lt' k2)
      simp only [Lane.push, if_neg k1, if_pos k2, if_pos k3]
      refine ⟨not_lt.mp k1, k2.le, o23, by dsimp only; omega, by dsimp only; omega, by dsimp only; omega,
        fun e => ⟨by dsimp only; have := (h1 e).1; omega, (h1 e).2⟩,
        fun e => ⟨by dsimp only; omega, rfl, by dsimp only; have := (h1 e1).1; omega⟩,
        fun e => ⟨by dsimp only; have := (h2 e).1; omega, (h2 e).2.1, (h2 e).2.2, by dsimp only; have := (h2 e).1; omega⟩, fun x hx => ?_⟩
      rcases Nat.lt_succ_iff_lt_or_eq.mp hx with hx | rfl
      · rcases all x hx with a | a | a | a
        · exact .inl a
        · exact .inr (.inr (.inl a))
        · exact .inr (.inr (.inr (by rw [a.2, (h3 a.1).2.1])))
        · exact .inr (.inr (.inr (a.trans o34)))
      · exact .inr (.inl ⟨ne_bot_of_lt' k2, rfl⟩)
    · by_cases k3 : L.c3 < v n
      · have e2 := ne_bot_of_le' (not_lt.mp k2) (ne_bot_of_lt' k3)
        have e1 := ne_bot_of_le' o12 e2
        simp only [Lane.push, if_neg k1, if_neg k2, if_pos k3]
        refine ⟨o12, not_lt.mp k2, k3.le, by dsimp only; omega, by dsimp only; omega, by dsimp only; omega,
          fun e => ⟨by dsimp only; have := (h1 e).1; omega, (h1 e).2⟩,
          fun e => ⟨by dsimp only; have := (h2 e).1; omega, (h2 e).2⟩,
          fun e => ⟨by dsimp only; omega, rfl, by dsimp only; have := (h1 e1).1; omega, by dsimp only; have := (h2 e2).1; omega⟩, fun x hx => ?_⟩
        rcases Nat.lt_succ_iff_lt_or_eq.mp hx with hx | rfl
        · rcases all x hx with a | a | a | a
          · exact .inl a
          · exact .inr (.inl a)
          · exact .inr (.inr (.inr (by rw [a.2, (h3 a.1).2.1])))
          · exact .inr (.inr (.inr (a.trans o34)))
        · exact .inr (.inr (.inl ⟨ne_bot_of_lt' k3, rfl⟩))
      · have key : L.c4 ≤ (if L.c4 < v n then v n else L.c4) ∧ v n ≤ (if L.c4 < v n then v n else L.c4)
            ∧ (if L.c4 < v n then v n else L.c4) ≤ L.c3 := by
          split
          · exact ⟨le_of_lt ‹_›, le_rfl, not_lt.mp k3⟩
          · exact ⟨le_rfl, not_lt.mp ‹_›, o34⟩
        simp only [Lane.push, if_neg k1, if_neg k2, if_neg k3]
        refine ⟨o12, o23, key.2.2, by dsimp only; omega, by dsimp only; omega, by dsimp only; omega,
          fun e => ⟨by dsimp only; have := (h1 e).1; omega, (h1 e).2⟩,
          fun e => ⟨by dsimp only; have := (h2 e).1; omega, (h2 e).2⟩,
          fun e => ⟨by dsimp only; have := (h3 e).1; omega, (h3 e).2⟩, fun x hx => ?_⟩
        rcases Nat.lt_succ_iff_lt_or_eq.mp hx with hx | rfl
        · rcases all x hx with a | a | a | a
          · exact .inl a
          · exact .inr (.inl a)
          · exact .inr (.inr (.inl a))
          · exact .inr (.inr (.inr (a.trans key.1)))
        · exact .inr (.inr (.inr key.2.1))

/-! ## Extracting across the lanes -/

structure Slot (α : Type) where
  c1 : α
  c2 : α
  c3 : α
  i1 : ℕ
  i2 : ℕ
  i3 : ℕ

def Slot.next (p : ℕ) (e : Slot α) : Slot α where
  c1 := if e.i1 = p then e.c2 else e.c1
  c2 := if e.i1 = p then e.c3 else e.c2
  c3 := if e.i1 = p then ⊥ else e.c3
  i1 := if e.i1 = p then e.i2 else e.i1
  i2 := if e.i1 = p then e.i3 else e.i2
  i3 := e.i3

/-- Lane `l` of `W` after the columns `p 0, …, p (k - 1)` were picked: what it holds is not picked, and every other column
    of the lane is picked or holds an entry at most `C`. -/
structure Slot.Good (s : ℕ → α) (N W : ℕ) (C : α) (p : ℕ → ℕ) (k l : ℕ) (e : Slot α) : Prop where
  o12 : e.c2 ≤ e.c1
  o23 : e.c3 ≤ e.c2
  b1 : e.i1 < N ∧ e.i1 % W = l
  b2 : e.i2 < N ∧ e.i2 % W = l
  b3 : e.i3 < N ∧ e.i3 % W = l
  h1 : e.c1 ≠ ⊥ → s e.i1 = e.c1 ∧ ∀ i < k, p i ≠ e.i1
  h2 : e.c2 ≠ ⊥ → s e.i2 = e.c2 ∧ (∀ i < k, p i ≠ e.i2) ∧ e.i2 ≠ e.i1
  h3 : e.c3 ≠ ⊥ → s e.i3 = e.c3 ∧ (∀ i < k, p i ≠ e.i3) ∧ e.i3 ≠ e.i1 ∧ e.i3 ≠ e.i2
  all : ∀ j < N, j % W = l → (∃ i < k, p i = j) ∨ (e.c1 ≠ ⊥ ∧ j = e.i1) ∨ (e.c2 ≠ ⊥ ∧ j = e.i2) ∨ (e.c3 ≠ ⊥ ∧ j = e.i3) ∨ s j ≤ C

theorem Slot.Good.next {s : ℕ → α} {N W : ℕ} {C : α} {p : ℕ → ℕ} {k l : ℕ} {e : Slot α} (h : e.Good s N W C p k l)
    (hl : p k % W = l → e.i1 = p k) : (e.next (p k)).Good s N W C p (k + 1) l := by
  obtain ⟨o12, o23, b1, b2, b3, h1, h2, h3, all⟩ := h
  have up : ∀ {j : ℕ}, (∀ i < k, p i ≠ j) → p k ≠ j → ∀ i < k + 1, p i ≠ j := fun h h' i hi => by
    rcases Nat.lt_succ_iff_lt_or_eq.mp hi with hi | rfl
    · exact h i hi
    · exact h'
  by_cases hit : e.i1 = p k
  · simp only [Slot.next, if_pos hit]
    refine ⟨o23, bot_le, b2, b3, b3,
      fun c => ⟨(h2 c).1, up (h2 c).2.1 fun x => (h2 c).2.2 (x.symm.trans hit.symm)⟩,
      fun c => ⟨(h3 c).1, up (h3 c).2.1 fun x => (h3 c).2.2.1 (x.symm.trans hit.symm), (h3 c).2.2.2⟩,
      fun c => absurd rfl c, fun j hj hl => ?_⟩
    rcases all j hj hl with ⟨i, hi, a⟩ | a | a | a | a
    · exact .inl ⟨i, by omega, a⟩
    · exact .inl ⟨k, by omega, hit.symm.trans a.2.symm⟩
    · exact .inr (.inl a)
    · exact .inr (.inr (.inl a))
    · exact .inr (.inr (.inr (.inr a)))
  · simp only [Slot.next, if_neg hit]
    have np : ∀ {j : ℕ}, j % W = l → p k ≠ j := fun hj e' => hit (hl (by rw [e', hj]))
    refine ⟨o12, o23, b1, b2, b3,
      fun c => ⟨(h1 c).1, up (h1 c).2 (np b1.2)⟩,
      fun c => ⟨(h2 c).1, up (h2 c).2.1 (np b2.2), (h2 c).2.2⟩,
      fun c => ⟨(h3 c).1, up (h3 c).2.1 (np b3.2), (h3 c).2.2⟩, fun j hj hl => ?_⟩
    rcases all j hj hl with ⟨i, hi, a⟩ | a
    · exact .inl ⟨i, by omega, a⟩
    · exact .inr a

/-- Ten picks, each the column of a lane holding the largest first value: when the last of those values is above the bound
    `C`, the picks are the row's largest entries. -/
theorem slots_top {s : ℕ → α} {N W K : ℕ} {C : α} {p : ℕ → ℕ} {m : ℕ → α} {E : ℕ → ℕ → Slot α} (hW : 0 < W)
    (h0 : ∀ l < W, (E 0 l).Good s N W C p 0 l)
    (hE : ∀ k, ∀ l < W, E (k + 1) l = (E k l).next (p k))
    (hm : ∀ k, ∀ l < W, (E k l).c1 ≤ m k)
    (hp : ∀ k ≤ K, C < m k → ∃ l < W, (E k l).c1 = m k ∧ (E k l).i1 = p k)
    (hmx : ∀ k ≤ K, ∃ l < W, (E k l).c1 = m k)
    (hC : C < m K) : IsTop s N (K + 1) p := by
  have ord : ∀ k, ∀ l < W, (E k l).c3 ≤ (E k l).c2 ∧ (E k l).c2 ≤ (E k l).c1 := by
    intro k
    induction k with
    | zero => exact fun l hl => ⟨(h0 l hl).o23, (h0 l hl).o12⟩
    | succ k ih =>
      intro l hl
      rw [hE k l hl]
      simp only [Slot.next]
      split
      · exact ⟨bot_le, (ih l hl).1⟩
      · exact ih l hl
  have anti : ∀ k < K, m (k + 1) ≤ m k := by
    intro k hk
    obtain ⟨l, hl, e⟩ := hmx (k + 1) (by omega)
    rw [← e, hE k l hl]
    refine le_trans ?_ (hm k l hl)
    simp only [Slot.next]
    split
    · exact (ord k l hl).2
    · exact le_rfl
  have big : ∀ d, ∀ k, k + d = K → C < m k := by
    intro d
    induction d with
    | zero => intro k hk; obtain rfl : k = K := by omega
              exact hC
    | succ d ih => intro k hk; exact lt_of_lt_of_le (ih (k + 1) (by omega)) (anti k (by omega))
  have good : ∀ k ≤ K, ∀ l < W, (E k l).Good s N W C p k l := by
    intro k
    induction k with
    | zero => exact fun _ => h0
    | succ k ih =>
      intro hk l hl
      rw [hE k l hl]
      refine (ih (by omega) l hl).next fun hmod => ?_
      obtain ⟨l', hl', -, e⟩ := hp k (by omega) (big (K - k) k (by omega))
      have := (ih (by omega) l' hl').b1.2
      rw [e, hmod] at this
      rw [this, e]
  intro k hk
  have hCk := big (K - k) k (by omega)
  obtain ⟨l, hl, e1, e2⟩ := hp k (by omega) hCk
  have g := good k (by omega) l hl
  have nb : (E k l).c1 ≠ ⊥ := by rw [e1]; exact ne_bot_of_lt' hCk
  refine ⟨e2 ▸ g.b1.1, e2 ▸ (g.h1 nb).2, fun j hj hn => ?_⟩
  rw [← e2, (g.h1 nb).1, e1]
  have gj := good k (by omega) (j % W) (Nat.mod_lt _ hW)
  have mj := hm k (j % W) (Nat.mod_lt _ hW)
  rcases gj.all j hj rfl with ⟨i, hi, a⟩ | a | a | a | a
  · exact absurd a (hn i hi)
  · rw [a.2, (gj.h1 a.1).1]; exact mj
  · rw [a.2, (gj.h2 a.1).1]; exact gj.o12.trans mj
  · rw [a.2, (gj.h3 a.1).1]; exact gj.o23.trans (gj.o12.trans mj)
  · exact a.trans hCk.le

end Cert.Top

end
-- ==== Proof.Fast.lean ====
module

public import proofs.«01_k».proof.Proof.Closed
public import proofs.«01_k».proof.Proof.TopMath
public import Idealize.ShloMosaic.Lib.Pointwise
@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! # The fast path at the extended reals

One row of the block at a time: each lane of the lane pass is a `Top.Lane`, each lane of the extraction a `Top.Slot`,
and where the body does not take the slow path the ten picks are the row's ten largest entries. -/

theorem neg_inf : Ideal.ofBits .f32 0xFF800000#32 = ⊥ := by
  simp [Ideal.ofBits, Ideal.ieee]

/-- Entry `j` of row `r` of the block of rows against all panels. -/
def sim (v6 : Vec Ideal S256x256 .f32) (p : Fin 16 → Vec Ideal S512x256 .f32) (r : Fin 256) (j : ℕ) : EReal :=
  tile v6 (p (Fin.ofNat 16 (j / 512))) (ix2 r (Fin.ofNat 512 (j % 512)))

/-- One row's one lane of the lane pass, as numbers. -/
def laneAt (L : Lanes Ideal) (r : Fin 256) (l : Fin 128) : Top.Lane EReal where
  c1 := L.c1 (ix2 r l)
  c2 := L.c2 (ix2 r l)
  c3 := L.c3 (ix2 r l)
  c4 := L.c4 (ix2 r l)
  g1 := (L.g1 (ix2 r l)).toNat
  g2 := (L.g2 (ix2 r l)).toNat
  g3 := (L.g3 (ix2 r l)).toNat

theorem ninf_at (r : Fin 256) (l : Fin 128) : (ninf : FVec Ideal S256x128 .f32) (ix2 r l) = ⊥ := by
  pointwise [ninf]
  exact neg_inf

theorem init_at (r : Fin 256) (l : Fin 128) : laneAt Lanes.init r l = ⟨⊥, ⊥, ⊥, ⊥, 0, 0, 0⟩ := by
  simp only [laneAt, Lanes.init, ninf_at, Top.Lane.mk.injEq]
  exact ⟨trivial, trivial, trivial, trivial, rfl, rfl, rfl⟩

theorem push_at (n : ℕ) (hn : n < 2 ^ 32) (v : FVec Ideal S256x128 .f32) (L : Lanes Ideal) (r : Fin 256) (l : Fin 128) :
    laneAt (L.push (BitVec.ofNat 32 n) v) r l = (laneAt L r l).push n (v (ix2 r l)) := by
  have hb : (BitVec.ofNat 32 n).toNat = n := by rw [BitVec.toNat_ofNat, Nat.mod_eq_of_lt hn]
  simp only [laneAt, Lanes.push, Top.Lane.push, Top.Lane.mk.injEq]
  pointwise []
  simp only [apply_ite BitVec.toNat, hb]
  exact ⟨rfl, rfl, rfl⟩

theorem tile_at (v6 : Vec Ideal S256x256 .f32) (p : Vec Ideal S512x256 .f32) (r : Fin 256) (k : Fin 512) :
    tile v6 p (ix2 r k) = ∑ d : Fin 256, v6 (ix2 r d) * p (ix2 k d) := by
  pointwise [tile]

theorem group_at (q : Fin 4) (t : FVec Ideal S256x512 .f32) (r : Fin 256) (l : Fin 128) :
    group q t (ix2 r l) = t (ix2 r ⟨128 * q.val + l.val, by omega⟩) := by
  pointwise [group]

/-- The lane pass keeps each lane's four largest entries. -/
theorem lanes_good (v6 : Vec Ideal S256x256 .f32) (p : Fin 16 → Vec Ideal S512x256 .f32) (r : Fin 256) (l : Fin 128) (n : ℕ)
    (hn : n ≤ 64) : (laneAt (lanes v6 p n) r l).Good (fun g => sim v6 p r (g * 128 + l.val)) n := by
  induction n with
  | zero =>
    rw [lanes, init_at]
    exact Top.Lane.good_init _
  | succ n ih =>
    have e : group (Fin.ofNat 4 n) (tile v6 (p (Fin.ofNat 16 (n / 4)))) (ix2 r l) = sim v6 p r (n * 128 + l.val) := by
      have h1 : (n * 128 + l.val) / 512 = n / 4 := by omega
      have h2 : (n * 128 + l.val) % 512 = 128 * (n % 4) + l.val := by omega
      rw [group_at, sim, h1]
      congr 2
      apply Fin.ext
      simp only [Fin.ofNat]
      omega
    rw [lanes, push_at n (by omega), e]
    exact (ih (by omega)).push

/-! ## The extraction -/

theorem fold_max {ι : Type*} [DecidableEq ι] (S : Finset ι) (f : ι → EReal) :
    (∀ x ∈ S, f x ≤ S.fold max ⊥ f) ∧ (S.Nonempty → ∃ x ∈ S, f x = S.fold max ⊥ f) := by
  induction S using Finset.induction_on with
  | empty => simp
  | insert a S ha ih =>
    rw [Finset.fold_insert ha]
    refine ⟨fun x hx => ?_, fun _ => ?_⟩
    · rcases Finset.mem_insert.mp hx with rfl | hx
      · exact le_max_left _ _
      · exact le_trans (ih.1 x hx) (le_max_right _ _)
    · by_cases hS : S.Nonempty
      · obtain ⟨x, hx, e⟩ := ih.2 hS
        rcases max_choice (f a) (S.fold max ⊥ f) with h | h
        · exact ⟨a, Finset.mem_insert_self _ _, h.symm⟩
        · exact ⟨x, Finset.mem_insert_of_mem hx, by rw [h, e]⟩
      · rw [Finset.not_nonempty_iff_eq_empty.mp hS]
        exact ⟨a, by simp, by simp⟩

theorem fold_min {ι : Type*} [DecidableEq ι] (S : Finset ι) (f : ι → BitVec 32) (b : BitVec 32) :
    (S.fold IntOp.minsi b f = b ∨ ∃ x ∈ S, f x = S.fold IntOp.minsi b f) ∧
      ∀ x ∈ S, (S.fold IntOp.minsi b f).toInt ≤ (f x).toInt := by
  induction S using Finset.induction_on with
  | empty => simp
  | insert a S ha ih =>
    rw [Finset.fold_insert ha]
    have hc : (IntOp.minsi (f a) (S.fold IntOp.minsi b f) = f a ∧ (f a).toInt ≤ (S.fold IntOp.minsi b f).toInt) ∨
        (IntOp.minsi (f a) (S.fold IntOp.minsi b f) = S.fold IntOp.minsi b f ∧
          (S.fold IntOp.minsi b f).toInt ≤ (f a).toInt) := by
      unfold IntOp.minsi
      split
      · rename_i h
        exact .inl ⟨rfl, by rw [BitVec.slt_iff_toInt_lt] at h; omega⟩
      · rename_i h
        exact .inr ⟨rfl, by rw [BitVec.slt_iff_toInt_lt] at h; omega⟩
    rcases hc with ⟨h, hle⟩ | ⟨h, hle⟩
    · rw [h]
      refine ⟨.inr ⟨a, Finset.mem_insert_self _ _, rfl⟩, fun x hx => ?_⟩
      rcases Finset.mem_insert.mp hx with rfl | hx
      · exact le_refl _
      · exact le_trans hle (ih.2 x hx)
    · rw [h]
      refine ⟨?_, fun x hx => ?_⟩
      · rcases ih.1 with h' | ⟨x, hx, e⟩
        · exact .inl h'
        · exact .inr ⟨x, Finset.mem_insert_of_mem hx, e⟩
      · rcases Finset.mem_insert.mp hx with rfl | hx
        · exact hle
        · exact ih.2 x hx

theorem rowMax_at (c : FVec Ideal S256x128 .f32) (r : Fin 256) :
    rowMax c (ix1 r) = Finset.univ.fold max ⊥ fun l : Fin 128 => c (ix2 r l) := by
  pointwise [rowMax]
  rw [neg_inf]

theorem le_rowMax (c : FVec Ideal S256x128 .f32) (r : Fin 256) (l : Fin 128) : c (ix2 r l) ≤ rowMax c (ix1 r) := by
  rw [rowMax_at]
  exact (fold_max Finset.univ fun l : Fin 128 => c (ix2 r l)).1 l (Finset.mem_univ l)

theorem rowMax_mem (c : FVec Ideal S256x128 .f32) (r : Fin 256) : ∃ l : Fin 128, c (ix2 r l) = rowMax c (ix1 r) := by
  rw [rowMax_at]
  obtain ⟨l, -, h⟩ := (fold_max Finset.univ fun l : Fin 128 => c (ix2 r l)).2 ⟨0, Finset.mem_univ _⟩
  exact ⟨l, h⟩

theorem pick_at (e : Ext Ideal) (r : Fin 256) :
   e.pick (ix2 r 0) = Finset.univ.fold (IntOp.minsi) 2147483647#32 fun l : Fin 128 =>
      if e.c1 (ix2 r l) = rowMax e.c1 (ix1 r) then e.i1 (ix2 r l) else 8192#32 := by
  pointwise [Ext.pick]

theorem colOf_at (g : IVec S256x128 32) (r : Fin 256) (l : Fin 128) (hg : (g (ix2 r l)).toNat < 64) :
    (colOf g (ix2 r l)).toNat = (g (ix2 r l)).toNat * 128 + l.val := by
  have e : colOf g (ix2 r l) = g (ix2 r l) * 128#32 + BitVec.ofNat 32 l.val := by
    pointwise [colOf]
    rfl
  rw [e, BitVec.toNat_add, BitVec.toNat_mul, BitVec.toNat_ofNat, BitVec.toNat_ofNat]
  omega

/-- One row's one lane of the extraction, as numbers. -/
def slotAt (e : Ext Ideal) (r : Fin 256) (l : Fin 128) : Top.Slot EReal where
  c1 := e.c1 (ix2 r l)
  c2 := e.c2 (ix2 r l)
  c3 := e.c3 (ix2 r l)
  i1 := (e.i1 (ix2 r l)).toNat
  i2 := (e.i2 (ix2 r l)).toNat
  i3 := (e.i3 (ix2 r l)).toNat

theorem next_at (e : Ext Ideal) (r : Fin 256) (l : Fin 128) :
    slotAt e.next r l = (slotAt e r l).next (e.pick (ix2 r 0)).toNat := by
  have hh : e.hit (ix2 r l) = BitVec.ofBool (decide ((e.i1 (ix2 r l)).toNat = (e.pick (ix2 r 0)).toNat)) := by
    pointwise [Ext.hit]
    simp only [IntOp.cmpi, BitVec.toNat_inj]
    congr 1
    try simp
  simp only [slotAt, Ext.next, Top.Slot.next, Top.Slot.mk.injEq]
  pointwise []
  simp only [hh, ninf_at]
  by_cases h : (e.i1 (ix2 r l)).toNat = (e.pick (ix2 r 0)).toNat
  · simp [h, Scalar.select]
  · simp [h, Scalar.select]

theorem slot_lt (L : Lanes Ideal) (r : Fin 256) (l : Fin 128)
    (h : (slotAt (ext L 0) r l).i1 < 8192 ∧ (slotAt (ext L 0) r l).i2 < 8192 ∧ (slotAt (ext L 0) r l).i3 < 8192) (k : ℕ) :
    (slotAt (ext L k) r l).i1 < 8192 ∧ (slotAt (ext L k) r l).i2 < 8192 ∧ (slotAt (ext L k) r l).i3 < 8192 := by
  induction k with
  | zero => exact h
  | succ k ih =>
    rw [ext, next_at, Top.Slot.next]
    dsimp only
    split
    · exact ⟨ih.2.1, ih.2.2, ih.2.2⟩
    · exact ih

/-- A pick is the column of some lane holding the row's largest value. -/
theorem pick_mem (e : Ext Ideal) (r : Fin 256) (h : ∀ l, (slotAt e r l).i1 < 8192) :
    ∃ l : Fin 128, (slotAt e r l).c1 = rowMax e.c1 (ix1 r) ∧ (slotAt e r l).i1 = (e.pick (ix2 r 0)).toNat := by
  obtain ⟨l₀, h₀⟩ := rowMax_mem e.c1 r
  have F := fold_min Finset.univ (fun l : Fin 128 =>
    if e.c1 (ix2 r l) = rowMax e.c1 (ix1 r) then e.i1 (ix2 r l) else 8192#32) 2147483647#32
  rw [← pick_at] at F
  have small : ∀ b : BitVec 32, b.toNat < 8192 → b.toInt < 8192 := fun b hb => by
    rw [BitVec.toInt_eq_toNat_of_lt (by omega)]; omega
  have hlt : (e.pick (ix2 r 0)).toInt < 8192 := by
    refine lt_of_le_of_lt (F.2 l₀ (Finset.mem_univ _)) ?_
    rw [if_pos h₀]
    exact small _ (h l₀)
  rcases F.1 with F1 | ⟨l, -, F1⟩
  · rw [F1] at hlt
    exact absurd hlt (by decide)
  · by_cases hc : e.c1 (ix2 r l) = rowMax e.c1 (ix1 r)
    · rw [if_pos hc] at F1
      exact ⟨l, hc, congrArg BitVec.toNat F1⟩
    · rw [if_neg hc] at F1
      rw [← F1] at hlt
      exact absurd hlt (by decide)

theorem c4_le (L : Lanes Ideal) (r : Fin 256) (l : Fin 128) : (laneAt L r l).c4 ≤ rowMax L.c4 (ix1 r) :=
  le_rowMax L.c4 r l

theorem slots_good (v6 : Vec Ideal S256x256 .f32) (p : Fin 16 → Vec Ideal S512x256 .f32) (r : Fin 256) (l : Fin 128)
    (q : ℕ → ℕ) :
    (slotAt (ext (lanes v6 p 64) 0) r l).Good (sim v6 p r) 8192 128 (rowMax (lanes v6 p 64).c4 (ix1 r)) q 0 l.val := by
  have G := lanes_good v6 p r l 64 le_rfl
  have hC : (laneAt (lanes v6 p 64) r l).c4 ≤ rowMax (lanes v6 p 64).c4 (ix1 r) :=
    c4_le _ r l
  have hl : l.val < 128 := l.isLt
  have lt1 : (laneAt (lanes v6 p 64) r l).g1 < 64 := by rcases G.b1 with h | h <;> omega
  have lt2 : (laneAt (lanes v6 p 64) r l).g2 < 64 := by rcases G.b2 with h | h <;> omega
  have lt3 : (laneAt (lanes v6 p 64) r l).g3 < 64 := by rcases G.b3 with h | h <;> omega
  have e : slotAt (ext (lanes v6 p 64) 0) r l = ⟨(laneAt (lanes v6 p 64) r l).c1, (laneAt (lanes v6 p 64) r l).c2,
      (laneAt (lanes v6 p 64) r l).c3, (laneAt (lanes v6 p 64) r l).g1 * 128 + l.val,
      (laneAt (lanes v6 p 64) r l).g2 * 128 + l.val, (laneAt (lanes v6 p 64) r l).g3 * 128 + l.val⟩ := by
    simp only [slotAt, ext, Ext.init, laneAt, Top.Slot.mk.injEq, true_and]
    exact ⟨colOf_at _ r l lt1, colOf_at _ r l lt2, colOf_at _ r l lt3⟩
  rw [e]
  revert G hC lt1 lt2 lt3
  generalize laneAt (lanes v6 p 64) r l = La
  generalize rowMax (lanes v6 p 64).c4 (ix1 r) = C
  intro G hC lt1 lt2 lt3
  obtain ⟨o12, o23, o34, b1, b2, b3, h1, h2, h3, all⟩ := G
  refine ⟨o12, o23, by dsimp only; omega, by dsimp only; omega, by dsimp only; omega, fun c => ⟨(h1 c).2, by omega⟩,
    fun c => ⟨(h2 c).2.1, by omega, ?_⟩, fun c => ⟨(h3 c).2.1, by omega, ?_, ?_⟩, fun j hj hjl => ?_⟩
  · have := (h2 c).2.2; dsimp only; omega
  · have := (h3 c).2.2.1; dsimp only; omega
  · have := (h3 c).2.2.2; dsimp only; omega
  · have ej : j = j / 128 * 128 + l.val := by omega
    rcases all (j / 128) (by omega) with ⟨a, b⟩ | ⟨a, b⟩ | ⟨a, b⟩ | a
    · exact .inr (.inl ⟨a, by dsimp only; rw [← b]; exact ej⟩)
    · exact .inr (.inr (.inl ⟨a, by dsimp only; rw [← b]; exact ej⟩))
    · exact .inr (.inr (.inr (.inl ⟨a, by dsimp only; rw [← b]; exact ej⟩)))
    · refine .inr (.inr (.inr (.inr ?_)))
      have a' : sim v6 p r (j / 128 * 128 + l.val) ≤ La.c4 := a
      rw [← ej] at a'
      exact le_trans a' hC

/-! ## The test -/

theorem badWord_at (L : Lanes Ideal) :
    badWord L = BitVec.ofBool (decide (0 < ∑ r : Fin 256,
      if rowMax (ext L 9).c1 (ix1 r) ≤ rowMax L.c4 (ix1 r) then (1 : EReal) else 0)) := by
  pointwise [badWord]
  simp only [Finset.univ_unique, Finset.sum_singleton]
  generalize decide (0 < ∑ x : Fin 256, if rowMax (ext L 9).c1 (ix1 x) ≤ rowMax L.c4 (ix1 x) then (1 : EReal) else 0) = b
  revert b
  decide

theorem above_of_not_bad (L : Lanes Ideal) (h : ¬ badWord L = 1#1) (r : Fin 256) :
    rowMax L.c4 (ix1 r) < rowMax (ext L 9).c1 (ix1 r) := by
  by_contra hr
  apply h
  rw [badWord_at]
  have : (0 : EReal) < ∑ r : Fin 256, if rowMax (ext L 9).c1 (ix1 r) ≤ rowMax L.c4 (ix1 r) then (1 : EReal) else 0 := by
    refine lt_of_lt_of_le zero_lt_one ?_
    have := Finset.single_le_sum (f := fun r : Fin 256 => if rowMax (ext L 9).c1 (ix1 r) ≤ rowMax L.c4 (ix1 r) then (1 : EReal) else 0)
      (s := Finset.univ) (fun i _ => by split <;> simp) (Finset.mem_univ r)
    rw [if_pos (not_lt.mp hr)] at this
    exact this
  rw [decide_eq_true this]
  rfl

/-- Where the body stays on the fast path, a row's ten picks are its ten largest entries. -/
theorem fast_top (v6 : Vec Ideal S256x256 .f32) (p : Fin 16 → Vec Ideal S512x256 .f32)
    (h : ¬ badWord (lanes v6 p 64) = 1#1) (r : Fin 256) :
    Top.IsTop (sim v6 p r) 8192 10 fun k => ((ext (lanes v6 p 64) k).pick (ix2 r 0)).toNat := by
  have lt : ∀ k, ∀ l : Fin 128, (slotAt (ext (lanes v6 p 64) k) r l).i1 < 8192 := fun k l =>
    (slot_lt _ r l (by
      have G := slots_good v6 p r l fun _ => 0
      exact ⟨G.b1.1, G.b2.1, G.b3.1⟩) k).1
  have bd : ∀ l, l < 128 → Fin.ofNat 128 l = (⟨l % 128, Nat.mod_lt _ (by omega)⟩ : Fin 128) := fun _ _ => rfl
  refine Top.slots_top (W := 128) (K := 9) (C := rowMax (lanes v6 p 64).c4 (ix1 r))
    (m := fun k => rowMax (ext (lanes v6 p 64) k).c1 (ix1 r))
    (E := fun k l => slotAt (ext (lanes v6 p 64) k) r (Fin.ofNat 128 l)) (by omega) ?_ ?_ ?_ ?_ ?_ ?_
  · intro l hl
    have G := slots_good v6 p r (Fin.ofNat 128 l) fun k => ((ext (lanes v6 p 64) k).pick (ix2 r 0)).toNat
    have e : (Fin.ofNat 128 l).val = l := Nat.mod_eq_of_lt hl
    rw [e] at G
    exact G
  · intro k l _
    exact next_at _ r _
  · intro k l _
    exact le_rowMax _ r _
  · intro k _ _
    obtain ⟨l, a, b⟩ := pick_mem (ext (lanes v6 p 64) k) r (lt k)
    exact ⟨l.val, l.isLt, by rw [Fin.ofNat_val_eq_self]; exact a, by rw [Fin.ofNat_val_eq_self]; exact b⟩
  · intro k _
    obtain ⟨l, a⟩ := rowMax_mem (ext (lanes v6 p 64) k).c1 r
    exact ⟨l.val, l.isLt, by rw [Fin.ofNat_val_eq_self]; exact a⟩
  · exact above_of_not_bad _ h r

end Cert.KernelIdeal.Hand

end
-- ==== Proof.Slow.lean ====
module

public import proofs.«01_k».proof.Proof.Fast
public import Idealize.ShloMosaic.Lib.Pipeline.Value
@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! # The slow path at the extended reals, and the block of columns -/

/-- The wide block read at an index is the entry of the panel the column lies in. -/
theorem wide_at (v6 : Vec Ideal S256x256 .f32) (p : Fin 16 → Vec Ideal S512x256 .f32) (r : Fin 256) (j : Fin 8192) :
    wide v6 p (ix2 r j) = sim v6 p r j.val := by
  have hn : j.val / 512 = (Fin.ofNat 16 (j.val / 512)).val := (Nat.mod_eq_of_lt (by omega)).symm
  have e := concatenate_ofFn_apply (t := S256x8192) (s₁ := S256x512) (1 : Fin 2) (fun n : Fin 16 => tile v6 (p n))
    concatenates_S256x512_S256x512_S256x512_S256x512_S256x512_S256x512_S256x512_S256x512_S256x512_S256x512_S256x512_S256x512_S256x512_S256x512_S256x512_S256x512_S256x8192_d1
    rfl 512 rfl (ix2 r j) (Fin.ofNat 16 (j.val / 512)) hn
    (ix2 r (Fin.ofNat 512 (j.val % 512))) (by
      show (j.val % 512) % 512 = j.val % 512
      omega) (by
      intro b hb
      match b, hb with
      | ⟨0, _⟩, _ => rfl
      | ⟨1, _⟩, hb => exact absurd rfl hb)
  exact e

/-- The column answered for a row is one where the row's entry is largest. -/
theorem argCol_at (x : FVec Ideal S256x8192 .f32) (r : Fin 256) :
    (argCol x (ix2 r 0)).toNat < 8192 ∧
      ∀ j : Fin 8192, x (ix2 r j) ≤ x (ix2 r (Fin.ofNat 8192 (argCol x (ix2 r 0)).toNat)) := by
  have e0 : argCol x (ix2 r 0) = reduceIndex .argMax 1 S256 x reduces_S256x8192_S256 (ix1 r) := by
    pointwise [argCol]
  have hd : ∀ i : S256x8192.Idx, reduces_S256x8192_S256.drop i = ix1 r ↔ i = ix2 r (i 1) := by
    intro i
    have h0 : (reduces_S256x8192_S256.drop i) 0 = i 0 := Fin.ext rfl
    constructor
    · intro h
      have hi : i 0 = r := by rw [← h0, h]; rfl
      rw [eq_ix2 i, hi]
      rfl
    · intro h
      funext b
      match b with
      | ⟨0, _⟩ => exact h0.trans (by rw [h]; rfl)
  obtain ⟨c, -, hc⟩ := Finset.exists_max_image (Finset.univ : Finset (Fin 8192)) (fun j => x (ix2 r j)) ⟨0, Finset.mem_univ _⟩
  rw [e0]
  have key : ∃ k : Fin 8192, reduceIndex .argMax 1 S256 x reduces_S256x8192_S256 (ix1 r) = BitVec.ofNat 32 k.val ∧
      ∀ j, x (ix2 r j) ≤ x (ix2 r k) := by
    show ∃ k : Fin 8192, Ideal.reduceIndex .argMax 1 reduces_S256x8192_S256 x (ix1 r) = BitVec.ofNat 32 k.val ∧ _
    unfold Ideal.reduceIndex
    dsimp only
    generalize hE : Finset.image (fun i : S256x8192.Idx => (i 1).val) _ = E
    have hm : ∀ n ∈ E, ∃ k : Fin 8192, n = k.val ∧ ∀ j, x (ix2 r j) ≤ x (ix2 r k) := by
      intro n hn
      rw [← hE] at hn
      obtain ⟨i, hi, rfl⟩ := Finset.mem_image.mp hn
      simp only [Finset.mem_filter, Finset.mem_univ, _root_.true_and, if_true] at hi
      have hi' := (hd i).mp hi.1
      refine ⟨i 1, rfl, fun j => ?_⟩
      have := hi.2 (ix2 r j) ((hd _).mpr rfl)
      rw [not_lt] at this
      rw [hi'] at this
      exact this
    have hne : E.Nonempty := by
      rw [← hE]
      refine Finset.Nonempty.image ⟨ix2 r c, ?_⟩ _
      simp only [Finset.mem_filter, Finset.mem_univ, _root_.true_and, if_true]
      refine ⟨(hd _).mpr rfl, fun i hi => ?_⟩
      rw [not_lt, (hd i).mp hi]
      exact hc _ (Finset.mem_univ _)
    obtain ⟨a, ha⟩ := Finset.min_of_nonempty hne
    obtain ⟨k, hk, hk'⟩ := hm a (Finset.mem_of_min ha)
    refine ⟨k, ?_, hk'⟩
    rw [ha, ← hk]
    rfl
  obtain ⟨k, hk, hk'⟩ := key
  have hn : (BitVec.ofNat 32 k.val).toNat = k.val := by rw [BitVec.toNat_ofNat, Nat.mod_eq_of_lt (by omega)]
  rw [hk, hn, Fin.ofNat_val_eq_self]
  exact ⟨k.isLt, hk'⟩

theorem select_eq {α : Type} (a b : BitVec 32) (x y : α) : Scalar.select (IntOp.cmpi .eq a b) x y = if a = b then x else y := by
  by_cases h : a = b
  · subst h
    simp [Scalar.select, IntOp.cmpi]
  · have hb : (a == b) = false := by simpa using h
    simp [Scalar.select, IntOp.cmpi, h, hb]

theorem masked_at (x : FVec Ideal S256x8192 .f32) (n : ℕ) (r : Fin 256) (j : Fin 8192) :
    masked x (n + 1) (ix2 r j) = if j.val = (argCol (masked x n) (ix2 r 0)).toNat then ⊥ else masked x n (ix2 r j) := by
  have hj : (BitVec.ofNat 32 j.val).toNat = j.val := by
    rw [BitVec.toNat_ofNat, Nat.mod_eq_of_lt (by omega)]
  rw [masked]
  pointwise []
  rw [neg_inf]
  rw [select_eq]
  by_cases h : j.val = (argCol (masked x n) (ix2 r 0)).toNat
  · rw [if_pos h, if_pos (BitVec.eq_of_toNat_eq (hj.trans h))]
  · rw [if_neg h, if_neg fun e => h (by rw [← e, hj])]

theorem tenCols_at (f : ℕ → IVec S256x1 32) (r : Fin 256) (k : Fin 10) : tenCols f (ix2 r k) = f k.val (ix2 r 0) := by
  have e := concatenate_ofFn_unit_apply (t := S256x10) (s₁ := S256x1) (1 : Fin 2) (fun n : Fin 10 => f n.val)
    concatenates_S256x1_S256x1_S256x1_S256x1_S256x1_S256x1_S256x1_S256x1_S256x1_S256x1_S256x10_d1
    rfl rfl (ix2 r k) k rfl (ix2 r 0) (by
      intro b hb
      match b, hb with
      | ⟨0, _⟩, _ => rfl
      | ⟨1, _⟩, hb => exact absurd rfl hb)
  exact e

/-! ## The block of columns -/

/-- Where a row's eleven largest entries are strictly decreasing at `q 0, …, q 10`, the body's ten columns of that row are
    `q 0, …, q 9`, on either path. -/
theorem cols_at (v6 : Vec Ideal S256x256 .f32) (p : Fin 16 → Vec Ideal S512x256 .f32) (r : Fin 256) (q : ℕ → ℕ)
    (hq : Top.IsTop (sim v6 p r) 8192 11 q) (hs : Top.Strict (sim v6 p r) 10 q) (k : Fin 10) :
    cols v6 p (ix2 r k) = BitVec.ofNat 32 (q k.val) := by
  have word : ∀ {b : BitVec 32}, b.toNat = q k.val → b = BitVec.ofNat 32 (q k.val) := fun {b} h => by
    rw [← h, BitVec.ofNat_toNat, BitVec.setWidth_eq]
  have fin : ∀ {j : ℕ}, j < 8192 → (Fin.ofNat 8192 j).val = j := fun h => Nat.mod_eq_of_lt h
  unfold cols
  by_cases hb : badWord (lanes v6 p 64) = 1#1
  · rw [if_pos hb, slow, tenCols_at]
    apply word
    refine Top.mask_eq (x := fun n j => masked (wide v6 p) n (ix2 r (Fin.ofNat 8192 j)))
      (p := fun n => (argCol (masked (wide v6 p) n) (ix2 r 0)).toNat) hq hs ?_ ?_ ?_ k.val k.isLt
    · intro j hj
      show wide v6 p (ix2 r (Fin.ofNat 8192 j)) = _
      rw [wide_at, fin hj]
    · intro n _ j hj
      show masked (wide v6 p) (n + 1) (ix2 r (Fin.ofNat 8192 j)) = _
      rw [masked_at, fin hj]
    · intro n _
      have A := argCol_at (masked (wide v6 p) n) r
      exact ⟨A.1, fun j _ => A.2 _⟩
  · rw [if_neg hb, fast, tenCols_at]
    apply word
    exact Top.IsTop.unique hq hs (fast_top v6 p hb r) k.val k.isLt

end Cert.KernelIdeal.Hand

end
-- ==== Proof.Ref.lean ====
module

public import proofs.«01_k».proof.Proof.Slow
public import proofs.«01_k».proof.Proof.Gen.ReferenceIdeal
public import proofs.«01_k».proof.Proof.Gen.ReferenceIdeal.Run
public import proofs.«01_k».proof.Proof.Gen.Pre_distinct_top
public import Idealize.ShloMosaic.Lib.SortFacts

@[expose] public section

set_option maxRecDepth 16384

noncomputable section

namespace Cert.Hand

open Idealize.ShloMosaic Idealize.ShloMosaic.TcCoe Idealize.ShloMosaic.Tactic

/-! # The reference at the extended reals -/

/-- The entry of the reference's matrix of similarities, of rows `a` and `b`. -/
def simR (x : FVec Ideal ⟨2, ![8192, 256]⟩ .f32) (a b : Fin 8192) : EReal :=
  ∑ d : Fin 256, Ideal.div (x (ix2 a d)) (Ideal.sqrt (∑ e : Fin 256, x (ix2 a e) * x (ix2 a e))) *
    Ideal.div (x (ix2 b d)) (Ideal.sqrt (∑ e : Fin 256, x (ix2 b e) * x (ix2 b e)))

section
open Cert.ReferenceIdeal Cert.ReferenceIdeal.Gen

/-- The reference's normalised rows. -/
def refXn (x : FVec Ideal S8192x256 .f32) : FVec Ideal S8192x256 .f32 :=
  Host.divf x (broadcastInDim S8192x256 ![0, 1] bcast_S8192x1_S8192x256_0_1 (Host.sqrt (broadcastInDim S8192x1 ![0] bcast_S8192_S8192x1_0 (Host.reduceAdd (mulf x x) (constant S_ .f32 0x00000000#32) reducesTo_S8192x256_S8192_d1 h_S_))))

/-- The reference's matrix of similarities. -/
def refSim (x : FVec Ideal S8192x256 .f32) : FVec Ideal S8192x8192 .f32 :=
  Host.dotGeneral dot_S8192x256_S256x8192_S8192x8192_1_0_0_1_n_n none (refXn x) (transpose S256x8192 [1, 0] (refXn x) transposes_S8192x256_S256x8192_1_0)

theorem refXn_at (x : FVec Ideal S8192x256 .f32) (a : Fin 8192) (d : Fin 256) :
    refXn x (ix2 a d) = Ideal.div (x (ix2 a d)) (Ideal.sqrt (∑ e : Fin 256, x (ix2 a e) * x (ix2 a e))) := by
  pointwise [refXn]

theorem refSim_at (x : FVec Ideal S8192x256 .f32) (a b : Fin 8192) : refSim x (ix2 a b) = simR x a b := by
  pointwise [refSim]
  simp only [refXn_at]
  rfl

/-- The order the reference's top-k puts a row's columns in: greatest first, equal ones by column. -/
def order (s : Fin 8192 → EReal) : Fin 8192 → Fin 8192 :=
  sortedFrom fun k k' => Ideal.cmp .ogt (s k) (s k') == 1#1

theorem along_at (a k j : Fin 8192) : Shape.Idx.along (s := S8192x8192) (ix2 a j) 1 k = ix2 a k := by
  funext b
  match b with
  | ⟨0, _⟩ => rfl
  | ⟨1, _⟩ => rfl

theorem sort_at {β : Type} (X : FVec Ideal S8192x8192 .f32) (Y : S8192x8192.Idx → β) (a k : Fin 8192) :
    (Host.sort2 S8192x8192 1 (fun l r => FloatOps.cmpfTotal .gt l.1 r.1) X Y).1 (ix2 a k)
        = X (ix2 a (order (fun j => X (ix2 a j)) k)) ∧
      (Host.sort2 S8192x8192 1 (fun l r => FloatOps.cmpfTotal .gt l.1 r.1) X Y).2 (ix2 a k)
        = Y (ix2 a (order (fun j => X (ix2 a j)) k)) := by
  have e : (sortedFrom (fun k' k'' => FloatOps.cmpfTotal (F := Ideal) .gt (X (Shape.Idx.along (s := S8192x8192) (ix2 a k) 1 k'))
      (X (Shape.Idx.along (s := S8192x8192) (ix2 a k) 1 k'')) == 1#1) k : Fin 8192) = order (fun j => X (ix2 a j)) k := by
    simp only [along_at]
    rfl
  refine ⟨?_, ?_⟩
  · exact (congrArg X (along_at a _ k)).trans (congrArg (fun z => X (ix2 a z)) e)
  · exact (congrArg Y (along_at a _ k)).trans (congrArg (fun z => Y (ix2 a z)) e)

theorem order_inj (s : Fin 8192 → EReal) : Function.Injective (order s) := sortedFrom_injective _

theorem order_anti (s : Fin 8192 → EReal) (i j : Fin 8192) (h : i < j) : s (order s j) ≤ s (order s i) := by
  have B : ∀ a b : EReal, ((Ideal.cmp .ogt a b == 1#1) = true ↔ b < a) := fun a b => by
    by_cases h : b < a <;> simp [Ideal.cmp, h]
  have B' : ∀ a b : EReal, ((Ideal.cmp .ogt a b == 1#1) = false ↔ a ≤ b) := fun a b => by
    rw [← Bool.not_eq_true, B, not_lt]
  have := sortedFrom_noInversion (fun k k' => Ideal.cmp .ogt (s k) (s k') == 1#1) (fun k k' => Ideal.cmp .ogt (s k) (s k') == 1#1)
    (fun a b h => (B' _ _).mpr (le_of_lt ((B _ _).mp h))) (fun a b h => h)
    (fun a b c h1 h2 => (B' _ _).mpr (le_trans ((B' _ _).mp h1) ((B' _ _).mp h2))) i j h
  exact (B' _ _).mp this

/-- The first eleven of that order are the row's largest entries. -/
theorem order_top (s : Fin 8192 → EReal) (S : ℕ → EReal) (hS : ∀ j : Fin 8192, S j.val = s j) :
    Top.IsTop S 8192 11 fun k => (order s (Fin.ofNat 8192 k)).val := by
  have v : ∀ {k : ℕ}, k < 11 → (Fin.ofNat 8192 k).val = k := fun h => Nat.mod_eq_of_lt (by omega)
  intro k hk
  refine ⟨Fin.isLt _, fun i hi e => ?_, fun j hj hn => ?_⟩
  · have := order_inj s (Fin.ext e)
    have := congrArg Fin.val this
    rw [v hk, v (by omega)] at this
    omega
  · obtain ⟨z, hz⟩ := sortedFrom_surjective (fun k k' => Ideal.cmp .ogt (s k) (s k') == 1#1) ⟨j, hj⟩
    have hz' : order s z = ⟨j, hj⟩ := hz
    have e1 : S j = s (order s z) := by rw [hz']; exact hS ⟨j, hj⟩
    rw [e1]
    dsimp only
    rw [hS]
    have hzk : k ≤ z.val := by
      by_contra hlt
      refine hn z.val (by omega) ?_
      have : Fin.ofNat 8192 z.val = z := Fin.ofNat_val_eq_self z
      dsimp only
      rw [this, hz']
    rcases Nat.lt_or_eq_of_le hzk with h | h
    · exact order_anti s _ _ (by rw [Fin.lt_def, v hk]; exact h)
    · have : Fin.ofNat 8192 k = z := Fin.ext (by rw [v hk]; exact h)
      rw [this]

theorem topK10_at (X : FVec Ideal S8192x8192 .f32) (a : Fin 8192) (k : Fin 10) :
    (Host.topK S8192x10 1 (FloatOps.cmpfTotal .gt) X sliceFits_S8192x8192_S8192x10).2 (ix2 a k)
      = BitVec.ofNat 32 (order (fun j => X (ix2 a j)) ⟨k.val, by omega⟩).val := by
  have h := (sort_at X (fun i => iotaInDim S8192x8192 32 1 i) a ⟨k.val, by omega⟩).2
  refine Eq.trans ?_ (h.trans rfl)
  unfold Host.topK
  pointwise []

/-- The row numbers, ten to a row, as the reference's index list. -/
def rowNum : IVec S81920 32 :=
  shapeCast _ (broadcastInDim S8192x10 ![0, 1] bcast_S8192x1_S8192x10_0_1 (broadcastInDim S8192x1 ![0] bcast_S8192_S8192x1_0 (iotaInDim S8192 32 0))) shapeCasts_S8192x10_S81920

theorem rowNum_at (i : Fin 81920) : rowNum (ix1 i) = BitVec.ofNat 32 (i.val / 10) := by
  pointwise [rowNum]

theorem counts_at (a : Fin 8192) :
    Host.scatterAdd scatter_S8192_S81920x1_S81920_n_0_0_1 (broadcastInDim S8192 ![] bcast_S_S8192 (constant S_ .f32 0x00000000#32)) (broadcastInDim S81920x1 ![0] bcast_S81920_S81920x1_0 rowNum) (broadcastInDim S81920 ![] bcast_S_S81920 (constant (F := Ideal) S_ .f32 0x3F800000#32)) (ix1 a) = 10 := by
  show Ideal.hostScatterAdd _ _ _ _ _ = _
  unfold Ideal.hostScatterAdd
  have st : ∀ j : Fin 81920, ScatterDims.resultIdx? scatter_S8192_S81920x1_S81920_n_0_0_1 (ix1 j)
      (broadcastInDim S81920x1 ![0] bcast_S81920_S81920x1_0 rowNum) = some (ix1 a) ↔ j.val / 10 = a.val := by
    intro j
    have h0 : ∀ b, ScatterDims.start scatter_S8192_S81920x1_S81920_n_0_0_1 (ix1 j)
        (broadcastInDim S81920x1 ![0] bcast_S81920_S81920x1_0 rowNum) b = ((j.val / 10 : ℕ) : ℤ) := by
      intro b
      match b with
      | ⟨0, _⟩ =>
        have e : ScatterDims.start scatter_S8192_S81920x1_S81920_n_0_0_1 (ix1 j)
            (broadcastInDim S81920x1 ![0] bcast_S81920_S81920x1_0 rowNum) 0 = (rowNum (ix1 j)).toInt := rfl
        refine e.trans ?_
        rw [rowNum_at, BitVec.toInt_eq_toNat_of_lt, BitVec.toNat_ofNat, Nat.mod_eq_of_lt (by omega)]
        rw [BitVec.toNat_ofNat]
        omega
    have h1 : ∀ b, ScatterDims.window scatter_S8192_S81920x1_S81920_n_0_0_1 (ix1 j) b = 0 := by
      intro b
      match b with
      | ⟨0, _⟩ => rfl
    unfold ScatterDims.resultIdx?
    simp only [h0, h1]
    rw [dif_pos]
    · rw [Option.some.injEq]
      constructor
      · intro h
        have := congrArg Fin.val (congrFun h 0)
        simp at this
        omega
      · intro h
        funext b
        match b with
        | ⟨0, _⟩ => exact Fin.ext (by simp; omega)
    · intro b
      match b with
      | ⟨0, _⟩ =>
        show (0 : ℤ) ≤ _ ∧ _ < ((8192 : ℕ) : ℤ)
        have := j.isLt
        omega
  have cd : (Finset.univ.filter fun j : S81920.Idx => ScatterDims.resultIdx? scatter_S8192_S81920x1_S81920_n_0_0_1 j
      (broadcastInDim S81920x1 ![0] bcast_S81920_S81920x1_0 rowNum) = some (ix1 a)).card = 10 := by
    rw [← Finset.card_fin 10]
    refine Finset.card_bij' (fun j _ => (⟨(j 0).val % 10, Nat.mod_lt _ (by omega)⟩ : Fin 10))
      (fun k _ => ix1 (⟨a.val * 10 + k.val, by omega⟩ : Fin 81920)) ?_ ?_ ?_ ?_
    · exact fun _ _ => Finset.mem_univ _
    · intro k _
      simp only [Finset.mem_filter, Finset.mem_univ, _root_.true_and]
      rw [st]
      show (a.val * 10 + k.val) / 10 = a.val
      omega
    · intro j hj
      simp only [Finset.mem_filter, Finset.mem_univ, _root_.true_and] at hj
      obtain ⟨j0, rfl⟩ : ∃ j0 : Fin 81920, j = ix1 j0 := ⟨j 0, eq_ix1 j⟩
      rw [st] at hj
      refine congrArg ix1 (Fin.ext ?_)
      show a.val * 10 + j0.val % 10 = j0.val
      omega
    · intro k _
      refine Fin.ext ?_
      show (a.val * 10 + k.val) % 10 = k.val
      omega
  have one : ∀ j : S81920.Idx, broadcastInDim S81920 ![] bcast_S_S81920 (constant (F := Ideal) S_ .f32 0x3F800000#32) j = (1 : EReal) := by
    intro j
    pointwise []
  have zero : broadcastInDim S8192 ![] bcast_S_S8192 (constant (F := Ideal) S_ .f32 0x00000000#32) (ix1 a) = (0 : EReal) := by
    pointwise []
  rw [zero, Finset.sum_congr rfl fun j _ => one j, Finset.sum_const, cd, nsmul_one, zero_add]
  rfl

theorem ten : Ideal.ofBits .f32 0x41200000#32 = (10 : EReal) := by
  rw [show (10 : EReal) = ((10 : ℝ) : EReal) by norm_cast]
  simp [Ideal.ofBits, Ideal.ieee, -EReal.coe_mul]
  norm_num

/-- The one number every value of the reference is. -/
def weight : EReal :=
  Ideal.pow (Ideal.ofBits .f32 0x33D6BF95#32 + 10) (Ideal.ofBits .f32 0xBF000000#32) *
    Ideal.pow (Ideal.ofBits .f32 0x33D6BF95#32 + 10) (Ideal.ofBits .f32 0xBF000000#32)

theorem values_at (m : (ℓ : Loc nD τ sig) → Buf (Elt Ideal) ℓ) (c : Dev nD) (i : Fin 81920) :
    Cert.ReferenceIdeal.Value.res_out1 m c (ix1 i) = weight := by
  have hc : ∀ y : S8192.Idx, Host.powf (addf (broadcastInDim S8192 ![] bcast_S_S8192 (constant (F := Ideal) S_ .f32 0x33D6BF95#32)) (Host.scatterAdd scatter_S8192_S81920x1_S81920_n_0_0_1 (broadcastInDim S8192 ![] bcast_S_S8192 (constant S_ .f32 0x00000000#32)) (broadcastInDim S81920x1 ![0] bcast_S81920_S81920x1_0 rowNum) (broadcastInDim S81920 ![] bcast_S_S81920 (constant S_ .f32 0x3F800000#32)))) (broadcastInDim S8192 ![] bcast_S_S8192 (constant S_ .f32 0xBF000000#32)) y
      = Ideal.pow (Ideal.ofBits .f32 0x33D6BF95#32 + 10) (Ideal.ofBits .f32 0xBF000000#32) := by
    intro y
    obtain ⟨a, rfl⟩ : ∃ a : Fin 8192, y = ix1 a := ⟨y 0, eq_ix1 y⟩
    have := counts_at a
    generalize Host.scatterAdd scatter_S8192_S81920x1_S81920_n_0_0_1 (broadcastInDim S8192 ![] bcast_S_S8192 (constant S_ .f32 0x00000000#32)) (broadcastInDim S81920x1 ![0] bcast_S81920_S81920x1_0 rowNum) (broadcastInDim S81920 ![] bcast_S_S81920 (constant (F := Ideal) S_ .f32 0x3F800000#32)) = z at this ⊢
    pointwise []
    rw [this]
    try rfl
  exact congrArg₂ (fun u v : EReal => u * v) (hc _) (hc _)

end

section
open Cert.Pre_distinct_top Cert.Pre_distinct_top.Gen

theorem pre_at (x : FVec Ideal S8192x256 .f32) (h : Cert.Pre_distinct_top.fn (F := Ideal) x = fun _ => 1#1) (a : Fin 8192) (k : Fin 10) :
    simR x a (order (simR x a) ⟨k.val + 1, by omega⟩) < simR x a (order (simR x a) ⟨k.val, by omega⟩) := by
  have h1 := congrFun h (ix2 a k)
  unfold Cert.Pre_distinct_top.fn at h1
  dsimp only at h1
  have e1 : ∀ z : Fin 11, (Host.topK S8192x11 1 (FloatOps.cmpfTotal .gt) (refSim x) sliceFits_S8192x8192_S8192x11).1 (ix2 a z)
      = simR x a (order (simR x a) ⟨z.val, by omega⟩) := by
    intro z
    have h := (sort_at (refSim x) (fun i => iotaInDim S8192x8192 32 1 i) a ⟨z.val, by omega⟩).1
    have h0 : (fun j => refSim x (ix2 a j)) = simR x a := funext fun j => refSim_at x a j
    rw [h0, refSim_at] at h
    refine Eq.trans ?_ h
    unfold Host.topK
    pointwise []
  have h2 : cmpf .ogt
      (extractStridedSlice S8192x10 ![0, 0] (Host.topK S8192x11 1 (FloatOps.cmpfTotal .gt) (refSim x) sliceFits_S8192x8192_S8192x11).1 slices_S8192x11_S8192x10_0_0)
      (extractStridedSlice S8192x10 ![0, 1] (Host.topK S8192x11 1 (FloatOps.cmpfTotal .gt) (refSim x) sliceFits_S8192x8192_S8192x11).1 slices_S8192x11_S8192x10_0_1)
      (ix2 a k) = 1#1 := h1
  generalize (Host.topK S8192x11 1 (FloatOps.cmpfTotal .gt) (refSim x) sliceFits_S8192x8192_S8192x11).1 = T at e1 h2
  pointwise [] at h2
  have h3 : T (ix2 a ⟨1 + k.val, by omega⟩) < T (ix2 a ⟨k.val, by omega⟩) := by
    by_contra hn
    rw [decide_eq_false hn] at h2
    exact absurd h2 (by decide)
  rw [e1, e1] at h3
  simp only [Nat.add_comm 1 k.val] at h3
  exact h3

end

end Cert.Hand

end
-- ==== Proof.Run.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Closed
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One run of the body

At the first grid point the body fills the scratch with the normalised rows; afterwards it only reads it. Either way it
leaves the block of columns computed from the scratch, the constant block of values, and the scratch itself. -/

/-- The condition of the body's first branch: the grid coordinate is zero. -/
abbrev cond0_0 (i : grid0.Coords) : Prop := (Scalar.cmpi .ne (Scalar.extui (Scalar.cmpi .eq (BitVec.ofNat 32 (i 0).val) 0#32)) 0#32) = 1#1

/-- The block of columns of a grid point, from the scratch's contents. -/
def colsAt (i : grid0.Coords) (s : Vec F S8192x256 .f32) : Vec F S256x10 .i32 := cols (rowsOf i s) (panelOf s)

/-- The grid point's rows as the body loads them. -/
abbrev rowsRaw (i : grid0.Coords) (M : Memref sig .tc .vmem S8192x256 .f32) (f : M.view.ty.Contents (Elt F)) : Vec F S256x256 .f32 :=
  View.readAt (Elt F) M.view (Rect.unit (s := S8192x256) (k0_off1 i) S256x256.size (k0_off1_inb i)).toLoadRect f

/-- A panel as the body loads it. -/
abbrev panelRaw (M : Memref sig .tc .vmem S8192x256 .f32) (f : M.view.ty.Contents (Elt F)) (k : Fin 16) : Vec F S512x256 .f32 :=
  View.readAt (Elt F) M.view (Rect.unit (s := S8192x256) ![512 * k.val, 0] S512x256.size (panel_inb k)).toLoadRect f

theorem rowsRaw_eq (i : grid0.Coords) (M : Memref sig .tc .vmem S8192x256 .f32) {f : M.view.ty.Contents (Elt F)} {s : Vec F S8192x256 .f32}
    (h : M.view.read (Elt F) f = s) : rowsRaw i M f = rowsOf i s := by
  subst h; rfl

theorem panelRaw_eq (M : Memref sig .tc .vmem S8192x256 .f32) {f : M.view.ty.Contents (Elt F)} {s : Vec F S8192x256 .f32}
    (h : M.view.read (Elt F) f = s) : panelRaw M f = panelOf s := by
  subst h; rfl

/-- A load of the whole reads the contents. -/
theorem readAt_full (M : Memref sig .tc .vmem S8192x256 .f32) {f : M.view.ty.Contents (Elt F)} {s : Vec F S8192x256 .f32}
    (h : M.view.read (Elt F) f = s) :
    View.readAt (Elt F) M.view (Rect.unit (s := S8192x256) ![0, 0] S8192x256.size inb_S8192x256_S8192x256_0_0).toLoadRect f = s := by
  subst h
  funext y
  refine congrArg (M.view.read (Elt F) f) (funext fun a => Fin.ext ?_)
  fin_cases a <;> simp [LoadRect.idx, Rect.toLoadRect, Rect.unit]

/-- The columns' buffer after the body, whichever way its last branch goes. -/
theorem read_branch (M : Memref sig .tc .vmem S256x10 .i32) (f : M.view.ty.Contents (Elt F))
    (inb : ∀ a, (![0, 0] : Fin 2 → ℕ) a + S256x10.size a ≤ S256x10.size a) (b : BitVec 1) (A B : IVec S256x10 32)
    {L : Lanes F} (x : FVec F S256x8192 .f32) (hb : b = badWord L) (hA : A = slow x) (hB : B = fast L) :
    M.view.read (Elt F) (if _h : b = 1#1 then
        M.view.writes (Elt F) f (⟨Rect.unit ![0, 0] S256x10.size inb, A⟩ :: [⟨Rect.unit ![0, 0] S256x10.size inb, B⟩])
      else M.view.writes (Elt F) f [⟨Rect.unit ![0, 0] S256x10.size inb, B⟩])
      = if badWord L = 1#1 then slow x else fast L := by
  subst hb hA hB
  split <;> exact View.read_writes_full _ _ _ _ _

set_option sl_exec.resultNames true in
set_option maxHeartbeats 1000000 in
/-- The first grid point. -/
theorem first (c : Dev nD) (i : grid0.Coords) (arg1 : Memref sig .tc .vmem S8192x256 .f32) (harg1 : arg1.IsWhole) (arg2 : Memref sig .tc .vmem S256x10 .i32) (harg2 : arg2.IsWhole) (arg3 : Memref sig .tc .vmem S256x10 .f32) (harg3 : arg3.IsWhole) (arg4 : Memref sig .tc .vmem S8192x256 .f32) (harg4 : arg4.IsWhole) (hc0 : cond0_0 i)
    (x0 : Vec F S8192x256 .f32) :
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare (colsAt i (k0_pay20 x0)) ∗ owns (c : Thread nD τ) arg3 fullShare vals ∗ owns (c : Thread nD τ) arg4 fullShare (k0_pay20 x0)) -∗ K ⟨⟩))
          ⊢ wp frame (wpE (defs₀ (F := F)) Variants.none c none) E (cc0__knn_kernel i arg1 harg1 arg2 harg2 arg3 harg3 arg4 harg4) K := by
  intro E K
  simp only [cc0__knn_kernel_eq_skeleton]; unfold cc0__knn_kernel_skel
  unfold owns
  iintro ⟨⟨%f0, %hf0, H0⟩, ⟨%d1, %f1, -, H1⟩, ⟨%d2, %f2, -, H2⟩, ⟨%ds0, %fs0, -, HS0⟩, Hk⟩
  obtain rfl := harg1.eq_unread hf0
  sl_exec_parts (disch := first | sl_exact hc0)
  have hs : arg4.view.read (Elt F) (arg4.view.writes (Elt F) arg4.view.junk (first.sl.HS0_1 c arg1 harg1 x0)) = (k0_pay20 x0) :=
    (View.read_writes_full _ _ _ _ _).trans (congrArg k0_pay20 (readAt_full arg1 hf0))
  have hbad : first.sl.v1363 c i arg1 harg1 arg4 x0 = badWord (lanes (rowsRaw i arg4 (arg4.view.writes (Elt F) arg4.view.junk (first.sl.HS0_1 c arg1 harg1 x0))) (panelRaw arg4 (arg4.view.writes (Elt F) arg4.view.junk (first.sl.HS0_1 c arg1 harg1 x0))) 64) := by sl_kernel_rfl
  have hfast : k0_pay791 (first.sl.v1210 c i arg1 harg1 arg4 x0) (first.sl.v1226 c i arg1 harg1 arg4 x0) (first.sl.v1242 c i arg1 harg1 arg4 x0) (first.sl.v1258 c i arg1 harg1 arg4 x0) (first.sl.v1274 c i arg1 harg1 arg4 x0) (first.sl.v1290 c i arg1 harg1 arg4 x0) (first.sl.v1306 c i arg1 harg1 arg4 x0) (first.sl.v1322 c i arg1 harg1 arg4 x0) (first.sl.v1336 c i arg1 harg1 arg4 x0) (first.sl.v1339 c i arg1 harg1 arg4 x0) (first.sl.v1340 c i arg1 harg1 arg4 x0) (first.sl.v1341 c i arg1 harg1 arg4 x0)
      = fast (lanes (rowsRaw i arg4 (arg4.view.writes (Elt F) arg4.view.junk (first.sl.HS0_1 c arg1 harg1 x0))) (panelRaw arg4 (arg4.view.writes (Elt F) arg4.view.junk (first.sl.HS0_1 c arg1 harg1 x0))) 64) := by sl_kernel_rfl
  have hslow : k0_pay793 first.sl.v1370 (first.sl.v1372 c i arg1 harg1 arg4 x0) (first.sl.v1378 c i arg1 harg1 arg4 x0) (first.sl.v1384 c i arg1 harg1 arg4 x0) (first.sl.v1390 c i arg1 harg1 arg4 x0) (first.sl.v1396 c i arg1 harg1 arg4 x0) (first.sl.v1402 c i arg1 harg1 arg4 x0) (first.sl.v1408 c i arg1 harg1 arg4 x0) (first.sl.v1414 c i arg1 harg1 arg4 x0) (first.sl.v1418 c i arg1 harg1 arg4 x0) (first.sl.v1420 c i arg1 harg1 arg4 x0)
      = slow (wide (rowsRaw i arg4 (arg4.view.writes (Elt F) arg4.view.junk (first.sl.HS0_1 c arg1 harg1 x0))) (panelRaw arg4 (arg4.view.writes (Elt F) arg4.view.junk (first.sl.HS0_1 c arg1 harg1 x0)))) := by sl_kernel_rfl
  rw [rowsRaw_eq i arg4 hs, panelRaw_eq arg4 hs] at hbad hfast hslow
  sl_step
  iapply Hk
  isplitl [H0]
  · iexists _; isplitr; · ipureintro; exact harg1.read_unread _
    iexact H0
  isplitl [H1]
  · iexists _; isplitr
    swap; · iexact H1
    ipureintro; exact read_branch arg2 f1 _ _ _ _ _ hbad hslow hfast
  isplitl [H2]
  · iexists _; isplitr
    swap; · iexact H2
    ipureintro; exact View.read_writes_full _ _ _ _ _
  iexists _; isplitr
  swap; · iexact HS0
  ipureintro; exact hs

set_option sl_exec.resultNames true in
set_option maxHeartbeats 1000000 in
/-- A later grid point. -/
theorem later (c : Dev nD) (i : grid0.Coords) (arg1 : Memref sig .tc .vmem S8192x256 .f32) (harg1 : arg1.IsWhole) (arg2 : Memref sig .tc .vmem S256x10 .i32) (harg2 : arg2.IsWhole) (arg3 : Memref sig .tc .vmem S256x10 .f32) (harg3 : arg3.IsWhole) (arg4 : Memref sig .tc .vmem S8192x256 .f32) (harg4 : arg4.IsWhole) (hc0 : ¬cond0_0 i)
    (x0 : Vec F S8192x256 .f32) (xs0 : Vec F S8192x256 .f32) :
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ owns (c : Thread nD τ) arg2 fullShare (colsAt i xs0) ∗ owns (c : Thread nD τ) arg3 fullShare vals ∗ owns (c : Thread nD τ) arg4 fullShare xs0) -∗ K ⟨⟩))
          ⊢ wp frame (wpE (defs₀ (F := F)) Variants.none c none) E (cc0__knn_kernel i arg1 harg1 arg2 harg2 arg3 harg3 arg4 harg4) K := by
  intro E K
  simp only [cc0__knn_kernel_eq_skeleton]; unfold cc0__knn_kernel_skel
  unfold owns
  iintro ⟨⟨%f0, %hf0, H0⟩, ⟨%d1, %f1, -, H1⟩, ⟨%d2, %f2, -, H2⟩, ⟨%fs0, %hfs0, HS0⟩, Hk⟩
  obtain rfl := harg1.eq_unread hf0; obtain rfl := harg4.eq_unread hfs0
  sl_exec_parts (disch := first | sl_exact hc0)
  have hs : arg4.view.read (Elt F) (harg4.unread xs0) = xs0 := harg4.read_unread _
  have hbad : later.sl.v1363 c i arg4 harg4 xs0 = badWord (lanes (rowsRaw i arg4 (harg4.unread xs0)) (panelRaw arg4 (harg4.unread xs0)) 64) := by sl_kernel_rfl
  have hfast : k0_pay791 (later.sl.v1210 c i arg4 harg4 xs0) (later.sl.v1226 c i arg4 harg4 xs0) (later.sl.v1242 c i arg4 harg4 xs0) (later.sl.v1258 c i arg4 harg4 xs0) (later.sl.v1274 c i arg4 harg4 xs0) (later.sl.v1290 c i arg4 harg4 xs0) (later.sl.v1306 c i arg4 harg4 xs0) (later.sl.v1322 c i arg4 harg4 xs0) (later.sl.v1336 c i arg4 harg4 xs0) (later.sl.v1339 c i arg4 harg4 xs0) (later.sl.v1340 c i arg4 harg4 xs0) (later.sl.v1341 c i arg4 harg4 xs0)
      = fast (lanes (rowsRaw i arg4 (harg4.unread xs0)) (panelRaw arg4 (harg4.unread xs0)) 64) := by sl_kernel_rfl
  have hslow : k0_pay793 later.sl.v1370 (later.sl.v1372 c i arg4 harg4 xs0) (later.sl.v1378 c i arg4 harg4 xs0) (later.sl.v1384 c i arg4 harg4 xs0) (later.sl.v1390 c i arg4 harg4 xs0) (later.sl.v1396 c i arg4 harg4 xs0) (later.sl.v1402 c i arg4 harg4 xs0) (later.sl.v1408 c i arg4 harg4 xs0) (later.sl.v1414 c i arg4 harg4 xs0) (later.sl.v1418 c i arg4 harg4 xs0) (later.sl.v1420 c i arg4 harg4 xs0)
      = slow (wide (rowsRaw i arg4 (harg4.unread xs0)) (panelRaw arg4 (harg4.unread xs0))) := by sl_kernel_rfl
  rw [rowsRaw_eq i arg4 hs, panelRaw_eq arg4 hs] at hbad hfast hslow
  sl_step
  iapply Hk
  isplitl [H0]
  · iexists _; isplitr; · ipureintro; exact harg1.read_unread _
    iexact H0
  isplitl [H1]
  · iexists _; isplitr
    swap; · iexact H1
    ipureintro; exact read_branch arg2 f1 _ _ _ _ _ hbad hslow hfast
  isplitl [H2]
  · iexists _; isplitr
    swap; · iexact H2
    ipureintro; exact View.read_writes_full _ _ _ _ _
  iexists _; isplitr
  swap; · iexact HS0
  ipureintro; exact hs

end Cert.KernelIdeal.Hand

end
-- ==== Proof.Whole.lean ====
module

public import proofs.«01_k».proof.Proof.Run
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole launch

The scratch is the region's invariant: at anything before the first grid point, at the normalised rows afterwards. -/

theorem cond0_0_iff (t : Fin cfg0.N) : cond0_0 (grid0.coords t) ↔ t.val = 0 := by
  have ht : t.val < 32 := Nat.lt_of_lt_of_eq t.isLt N_0
  have e0 : (grid0.coords t 0).val = t.val / 1 % 32 := Pipeline.Grid.coords_val t 0 (by decide) rfl
  have h : cond0_0 (grid0.coords t) ↔ t.val % 32 = 0 := by
    simp only [cond0_0, e0]
    word_cmp
  rw [h, Nat.mod_eq_of_lt ht]

/-- The first grid point. -/
def t0 : Fin cfg0.N := ⟨0, by rw [show cfg0.N = 32 from N_0]; decide⟩

/-- What the scratch holds from the first grid point on: the normalised rows. -/
def scr (c : Dev nD) : Vec F S8192x256 .f32 := k0_pay20 (iblk m c 0 t0)

/-- The scratch operand. -/
abbrev scM : Memref sig .tc .vmem S8192x256 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before position `n`. -/
def Phi (c : Dev nD) : ℕ → sProp 𝕄
  | 0 => Pipeline.ΦA spec0 c
  | _ + 1 => iprop(owns (c : Thread nD τ) scM fullShare (scr m c) ∗ (∃ r, prngReg c r))

theorem Phi_pos (c : Dev nD) {n : ℕ} (h : n ≠ 0) :
    Phi m c n = iprop(owns (c : Thread nD τ) scM fullShare (scr m c) ∗ (∃ r, prngReg c r)) := by
  cases n with
  | zero => exact absurd rfl h
  | succ n => rfl

/-- The pipeline's proof data: the input's buffer at its block, the columns' at those of the point's rows, the values'
    at the constant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => colsAt (grid0.coords t) (scr m c)
    | ⟨2, _⟩ => vals
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = colsAt (grid0.coords t) (scr m c) := by dsimp only [dats]
theorem after2 (c : Dev nD) (t : Fin cfg0.N) : (dats m 0 c).after 2 t = vals := by dsimp only [dats]

theorem before0 (c : Dev nD) (t : Fin cfg0.N) (d) : (dats m 0 c).before 0 t d = iblk m c 0 t :=
  before0_0_of m (dats m 0 c) (A_eq m c 0) (after0 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point, from the one-run lemmas. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).owesAt () t.succ = (dats m 0 c).owesAt () t.castSucc from rfl,
    after0, after1, after2]
  rw [show (dats m 0 c).Φ t.succ = Phi m c (t.val + 1) from rfl, Phi_pos m c (Nat.succ_ne_zero _)]
  rw [show (dats m 0 c).Φ t.castSucc = Phi m c t.val from rfl]
  by_cases hz : t.val = 0
  · obtain rfl : t = t0 := Fin.ext hz
    rw [show Phi m c (t0 : Fin cfg0.N).val = Pipeline.ΦA spec0 c from rfl, PhiA_eq]
    iintro ⟨⟨HS0, Hg⟩, Ho, ⟨%d0, H0⟩, ⟨%d1, H1⟩, ⟨%d2, H2⟩⟩
    iapply (first c (grid0.coords t0) _ _ _ _ _ _ _ _ ((cond0_0_iff t0).mpr hz) (iblk m c 0 t0) Set.univ _)
    isplitl [H0]; · iexact H0
    isplitl [H1]; · iexists _; iexact H1
    isplitl [H2]; · iexists _; iexact H2
    isplitl [HS0]; · iexact HS0
    iintro ⟨H0, H1, H2, HS0⟩
    isplitl [HS0 Hg]
    · isplitl [HS0]
      · iexact HS0
      iexact Hg
    isplitl [Ho]; · iexact Ho
    isplitl [H0]; · iexact H0
    isplitl [H1]; · iexact H1
    iexact H2
  · rw [Phi_pos m c hz]
    iintro ⟨⟨HS0, Hg⟩, Ho, ⟨%d0, H0⟩, ⟨%d1, H1⟩, ⟨%d2, H2⟩⟩
    iapply (later c (grid0.coords t) _ _ _ _ _ _ _ _ (fun h => hz ((cond0_0_iff t).mp h)) (iblk m c 0 t) (scr m c) Set.univ _)
    isplitl [H0]; · iexact H0
    isplitl [H1]; · iexists _; iexact H1
    isplitl [H2]; · iexists _; iexact H2
    isplitl [HS0]; · iexact HS0
    iintro ⟨H0, H1, H2, HS0⟩
    isplitl [HS0 Hg]
    · isplitl [HS0]
      · iexact HS0
      iexact Hg
    isplitl [Ho]; · iexact Ho
    isplitl [H0]; · iexact H0
    isplitl [H1]; · iexact H1
    iexact H2

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Phi m c cfg0.N from rfl,
    Phi_pos m c (by rw [show cfg0.N = 32 from N_0]; decide), PhiA_eq]
  iintro ⟨HS0, Hg⟩
  isplitl [HS0]
  · iexists _; iexact HS0
  iexact Hg

set_option backward.isDefEq.respectTransparency.types false in
/-- The launch: every execution ends with the arrays at what the proof data compute, then the host lines' results, and
    every counter at zero. -/
theorem run_main : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument array ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Agree.lean ====
module

public import proofs.«01_k».proof.Proof.Ref
public import proofs.«01_k».proof.Proof.Whole

@[expose] public section

set_option maxRecDepth 16384

noncomputable section

namespace Cert.Hand

open Idealize.ShloMosaic Idealize.ShloMosaic.TcCoe Idealize.ShloMosaic.Tactic
open Cert.KernelIdeal Cert.KernelIdeal.Gen Cert.KernelIdeal.Hand

/-! # The kernel's columns are the reference's -/

/-- The normalised rows the kernel keeps in its scratch. -/
theorem norm_at (x : Vec Ideal S8192x256 .f32) (a : Fin 8192) (d : Fin 256) :
    k0_pay20 x (ix2 a d) = Ideal.div (x (ix2 a d)) (Ideal.sqrt (∑ e : Fin 256, x (ix2 a e) * x (ix2 a e))) := by
  pointwise [k0_pay20]

/-- The row of the array a grid point's local row is. -/
def rowAt (i : grid0.Coords) (r : Fin 256) : Fin 8192 :=
  ⟨256 * (i 0).val + r.val, by have h : (i 0).val < 32 := (i 0).isLt; omega⟩

theorem rowsOf_at (i : grid0.Coords) (s : Vec Ideal S8192x256 .f32) (r d : Fin 256) :
    rowsOf i s (ix2 r d) = s (ix2 (rowAt i r) d) := by
  unfold rowsOf
  refine congrArg s (funext fun b => Fin.ext ?_)
  match b with
  | ⟨0, _⟩ =>
    show k0_off1 i 0 + 1 * r.val = 256 * (i 0).val + r.val
    rw [k0_off1_eq, Nat.one_mul]
    rfl
  | ⟨1, _⟩ =>
    show k0_off1 i 1 + 1 * d.val = d.val
    rw [k0_off1_eq, Nat.one_mul]
    exact Nat.zero_add _

theorem panelOf_at (s : Vec Ideal S8192x256 .f32) (k : Fin 16) (z : Fin 512) (d : Fin 256) :
    panelOf s k (ix2 z d) = s (ix2 ⟨512 * k.val + z.val, by omega⟩ d) := by
  unfold panelOf
  refine congrArg s (funext fun b => Fin.ext ?_)
  match b with
  | ⟨0, _⟩ =>
    show 512 * k.val + 1 * z.val = 512 * k.val + z.val
    omega
  | ⟨1, _⟩ =>
    show 0 + 1 * d.val = d.val
    omega

theorem sim_at (x : Vec Ideal S8192x256 .f32) (i : grid0.Coords) (r : Fin 256) (j : Fin 8192) :
    sim (rowsOf i (k0_pay20 x)) (panelOf (k0_pay20 x)) r j.val = simR x (rowAt i r) j := by
  unfold sim
  rw [tile_at]
  unfold simR
  refine Finset.sum_congr rfl fun d _ => ?_
  rw [rowsOf_at, panelOf_at, norm_at, norm_at]
  have e : (⟨512 * (Fin.ofNat 16 (j.val / 512)).val + (Fin.ofNat 512 (j.val % 512)).val, by omega⟩ : Fin 8192) = j := by
    apply Fin.ext
    show 512 * (j.val / 512 % 16) + j.val % 512 % 512 = j.val
    omega
  rw [e]

/-- The columns of a grid point's row, the reference's order of that row. -/
theorem colsAt_at (x : Vec Ideal S8192x256 .f32) (h : Cert.Pre_distinct_top.fn (F := Ideal) x = fun _ => 1#1)
    (i : grid0.Coords) (r : Fin 256) (k : Fin 10) :
    colsAt i (k0_pay20 x) (ix2 r k) = BitVec.ofNat 32 (order (simR x (rowAt i r)) ⟨k.val, by omega⟩).val := by
  have small : ∀ n : ℕ, (hn : n < 11) → Fin.ofNat 8192 n = (⟨n, by omega⟩ : Fin 8192) := fun n hn =>
    Fin.ext (Nat.mod_eq_of_lt (by omega))
  refine (cols_at _ _ r (fun n => (order (simR x (rowAt i r)) (Fin.ofNat 8192 n)).val) ?_ ?_ k).trans ?_
  · exact order_top _ _ fun j => sim_at x i r j
  · intro n hn
    show sim _ _ r (order (simR x (rowAt i r)) (Fin.ofNat 8192 (n + 1))).val < sim _ _ r (order (simR x (rowAt i r)) (Fin.ofNat 8192 n)).val
    rw [sim_at, sim_at, small n (by omega), small (n + 1) (by omega)]
    exact pre_at x h (rowAt i r) ⟨n, hn⟩
  · rw [small k.val (by omega)]

/-- The array of columns the launch ends with. -/
def colArr (x : Vec Ideal S8192x256 .f32) : IVec S8192x10 32 :=
  fun y => BitVec.ofNat 32 (order (simR x (y 0)) ⟨(y 1).val, lt_trans (y 1).isLt (by decide)⟩).val

/-- It is the reference's. -/
theorem colArr_eq (x : Vec Ideal S8192x256 .f32) :
    colArr x = (Host.topK Cert.ReferenceIdeal.S8192x10 1 (FloatOps.cmpfTotal .gt) (refSim x) Cert.ReferenceIdeal.Gen.sliceFits_S8192x8192_S8192x10).2 := by
  funext y
  obtain ⟨a, k, rfl⟩ : ∃ (a : Fin 8192) (k : Fin 10), y = ix2 a k := ⟨y 0, y 1, eq_ix2 y⟩
  refine Eq.trans ?_ (topK10_at _ a k).symm
  simp only [refSim_at]
  rfl

/-- The constant of the values. -/
theorem vals_at (y : S256x10.Idx) : (vals (F := Ideal)) y = weight := by
  rw [eq_ix2 y]
  pointwise [vals, k0_pay1, weight]
  rw [ten]
  rfl

/-! # The arrays after the launch -/

section
variable (m : (ℓ : Loc nD τ sig) → Buf (Elt Ideal) ℓ)

/-- The argument. -/
abbrev arg (c : Dev nD) : Vec Ideal S8192x256 .f32 := m ((c : Thread nD τ).loc main_arg0)

theorem iblk0 (c : Dev nD) (t : Fin cfg0.N) : iblk m c 0 t = arg m c := by
  unfold iblk
  rw [show V m c (Pipeline.arrRef spec0 0) = m ((c : Thread nD τ).loc main_arg0) from V_main_arg0 m c]
  funext y
  refine congrArg (m ((c : Thread nD τ).loc main_arg0)) (funext fun b => Fin.ext ?_)
  match b with
  | ⟨0, _⟩ =>
    show 0 * 8192 + 1 * (y 0).val = (y 0).val
    omega
  | ⟨1, _⟩ =>
    show 0 * 256 + 1 * (y 1).val = (y 1).val
    omega

theorem scr_eq (c : Dev nD) : scr m c = k0_pay20 (arg m c) := by
  unfold scr
  rw [iblk0]

/-- Where the columns' and the values' blocks lie. -/
theorem place1 (t : Fin cfg0.N) : win0_1.index t = ![t.val, 0] ∧ win0_1.flush t = true ∧ (grid0.coords t 0).val = t.val :=
  (by decide +kernel : ∀ t : Fin grid0.N, win0_1.index t = ![t.val, 0] ∧ win0_1.flush t = true ∧ (grid0.coords t 0).val = t.val) t
theorem place2 (t : Fin cfg0.N) : win0_2.index t = ![t.val, 0] ∧ win0_2.flush t = true :=
  (by decide +kernel : ∀ t : Fin grid0.N, win0_2.index t = ![t.val, 0] ∧ win0_2.flush t = true) t

/-- The grid point of an index. -/
def ptOf (i : S8192x10.Idx) : Fin cfg0.N :=
  ⟨(i 0).val / 256, by have h : (i 0).val < 8192 := (i 0).isLt; rw [show cfg0.N = 32 from N_0]; omega⟩

theorem mem1 (i : S8192x10.Idx) : i ∈ ((cfg0.win 1).blk (ptOf i)).view.set := by
  show i ∈ ((View.whole main_call0_v0_0).slice (win0_1.rect (ptOf i))).set
  rw [View.set_slice_whole, Rect.mem_set_unit]
  show ∀ a : Fin 2, win0_1.index (ptOf i) a * S256x10.size a ≤ (i a).val ∧ (i a).val < win0_1.index (ptOf i) a * S256x10.size a + S256x10.size a
  rw [(place1 _).1]
  intro a
  match a with
  | ⟨0, _⟩ =>
    show (i 0).val / 256 * 256 ≤ (i 0).val ∧ (i 0).val < (i 0).val / 256 * 256 + 256
    omega
  | ⟨1, _⟩ =>
    have h : (i 1).val < 10 := (i 1).isLt
    show 0 * 10 ≤ (i 1).val ∧ (i 1).val < 0 * 10 + 10
    omega

theorem mem2 (i : S8192x10.Idx) : i ∈ ((cfg0.win 2).blk (ptOf i)).view.set := by
  show i ∈ ((View.whole main_call0_v0_1).slice (win0_2.rect (ptOf i))).set
  rw [View.set_slice_whole, Rect.mem_set_unit]
  show ∀ a : Fin 2, win0_2.index (ptOf i) a * S256x10.size a ≤ (i a).val ∧ (i a).val < win0_2.index (ptOf i) a * S256x10.size a + S256x10.size a
  rw [(place2 _).1]
  intro a
  match a with
  | ⟨0, _⟩ =>
    show (i 0).val / 256 * 256 ≤ (i 0).val ∧ (i 0).val < (i 0).val / 256 * 256 + 256
    omega
  | ⟨1, _⟩ =>
    have h : (i 1).val < 10 := (i 1).isLt
    show 0 * 10 ≤ (i 1).val ∧ (i 1).val < 0 * 10 + 10
    omega

theorem final1 (c : Dev nD) (h : Cert.Pre_distinct_top.fn (F := Ideal) (arg m c) = fun _ => 1#1) :
    (dats m 0 c).arrAt 1 cfg0.N = colArr (arg m c) := by
  refine (dats m 0 c).arrAt_eq_of_cover 1 _ (fun t _ => ?_) fun i => ⟨ptOf i, (place1 _).2.1, mem1 i⟩
  show (cfg0.win 1).cut (grid0.coords t) ((dats m 0 c).after 1 t) = _
  rw [after1, scr_eq]
  refine funext fun (y : S256x10.Idx) => ?_
  obtain ⟨r, k, rfl⟩ : ∃ (r : Fin 256) (k : Fin 10), y = ix2 r k := ⟨y 0, y 1, eq_ix2 y⟩
  have e : ((cfg0.win 1).blk t).view.emb (ix2 r k) = (ix2 (rowAt (grid0.coords t) r) k : S8192x10.Idx) := by
    funext b
    apply Fin.ext
    match b with
    | ⟨0, _⟩ =>
      show win0_1.index t 0 * 256 + 1 * r.val = 256 * (grid0.coords t 0).val + r.val
      rw [(place1 t).1, (place1 t).2.2]
      show t.val * 256 + 1 * r.val = _
      omega
    | ⟨1, _⟩ =>
      show win0_1.index t 1 * 10 + 1 * k.val = k.val
      rw [(place1 t).1]
      show 0 * 10 + 1 * k.val = _
      omega
  exact (colsAt_at (arg m c) h (grid0.coords t) r k).trans (congrArg (colArr (arg m c)) e).symm

theorem final2 (c : Dev nD) : (dats m 0 c).arrAt 2 cfg0.N = fun _ => weight := by
  refine (dats m 0 c).arrAt_eq_of_cover 2 _ (fun t _ => ?_) fun i => ⟨ptOf i, (place2 _).2, mem2 i⟩
  show (cfg0.win 2).cut (grid0.coords t) ((dats m 0 c).after 2 t) = _
  rw [after2]
  funext y
  exact vals_at y

end

end Cert.Hand

end
-- ==== Proof.Frames.lean ====
module

public import proofs.«01_k».proof.Proof.Whole
public import proofs.«01_k».proof.Proof.Gen.Kernel
public import proofs.«01_k».proof.Proof.Gen.Kernel.Launch
public import proofs.«01_k».proof.Proof.Gen.ReferenceIdeal
public import proofs.«01_k».proof.Proof.Gen.ReferenceIdeal.Run
public import proofs.«01_k».proof.Proof.Gen.Pre_distinct_top
public import proofs.«01_k».proof.Defs

@[expose] public section

set_option maxRecDepth 16384

noncomputable section

namespace Cert.Hand

open Idealize.ShloMosaic Idealize.ShloMosaic.TcCoe Idealize.ShloMosaic.Tactic

/-! # The frame claims

The kernel and its copy read at the extended reals are the same text under two names, so the launch proved generically for
the one is, by computation, the launch of the other. -/

/-- The launch claim over the copy's names, at the machine's floats. -/
def CopyQuiet : Prop :=
  ∀ (m : (ℓ : Loc Cert.KernelIdeal.nD Cert.KernelIdeal.τ Cert.KernelIdeal.sig) → Buf (Elt Bits) ℓ) (ρ : Dev Cert.KernelIdeal.nD → PrngReg),
    θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0)

/-- The same over the kernel's own names. -/
def OwnQuiet : Prop :=
  ∀ (m : (ℓ : Loc Cert.Kernel.nD Cert.Kernel.τ Cert.Kernel.sig) → Buf (Elt Bits) ℓ) (ρ : Dev Cert.Kernel.nD → PrngReg),
    θ_run (Cert.Kernel.defs (F := Bits)) (onTc (τ := Cert.Kernel.τ) (Cert.Kernel.main (F := Bits))) ⟨m, fun _ => 0, ρ⟩
      (fun r => (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)) ∧ r.2.sem = fun _ => 0)

theorem own_eq_copy : OwnQuiet = CopyQuiet := by sl_kernel_rfl

theorem own_quiet : OwnQuiet := own_eq_copy.symm.mp fun m ρ => Cert.KernelIdeal.Hand.frame m ρ

theorem quiescent_kernel : Cert.quiescent_Kernel := fun m ρ _ => own_quiet m ρ

theorem quiescent_kernel_pre : Cert.quiescent_Kernel_pre_distinct_top := fun m ρ _ => own_quiet m ρ

theorem quiescent_copy : Cert.quiescent_KernelIdeal := fun m ρ _ => Cert.KernelIdeal.Hand.frame m ρ

theorem quiescent_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run m ρ)

theorem quiescent_reference_pre : Cert.quiescent_ReferenceIdeal_pre_distinct_top := fun m ρ _ =>
  quiescent_reference m ρ trivial

end Cert.Hand

end
-- ==== Proof.End.lean ====
module

public import proofs.«01_k».proof.Proof.Agree
public import proofs.«01_k».proof.Proof.Frames
public import proofs.«01_k».proof.Defs

@[expose] public section

set_option maxRecDepth 16384

noncomputable section

namespace Cert.Hand

open Idealize.ShloMosaic Idealize.ShloMosaic.TcCoe Idealize.ShloMosaic.Tactic Idealize.SL.Sem
open Cert.KernelIdeal Cert.KernelIdeal.Gen Cert.KernelIdeal.Hand

/-! # The results of both programs -/

/-- Two lists one over the other. -/
def conc : (⟨S1x81920, .i32⟩ : BufTy).Contents (Elt Ideal) → (⟨S1x81920, .i32⟩ : BufTy).Contents (Elt Ideal) → (⟨S2x81920, .i32⟩ : BufTy).Contents (Elt Ideal) :=
  fun a b => concatenate S2x81920 0 [⟨S1x81920, a⟩, ⟨S1x81920, b⟩] concatenates_S1x81920_S1x81920_S2x81920_d0

/-- The list of pairs a table of columns is turned into: each row's number, ten times, over its columns. -/
def pairs (x : IVec S8192x10 32) : IVec S2x81920 32 :=
  conc (broadcastInDim S1x81920 ![1] bcast_S81920_S1x81920_1 (shapeCast _ (broadcastInDim S8192x10 ![0, 1] bcast_S8192x1_S8192x10_0_1 (broadcastInDim S8192x1 ![0] bcast_S8192_S8192x1_0 (iotaInDim S8192 32 0))) shapeCasts_S8192x10_S81920))
    (broadcastInDim S1x81920 ![1] bcast_S81920_S1x81920_1 (shapeCast _ x shapeCasts_S8192x10_S81920))

section
variable (m : (ℓ : Loc nD τ sig) → Buf (Elt Ideal) ℓ)

theorem ops_pairs (W : Valuation τ sig (Elt Ideal)) :
    StableHlo.after (hostOps1 (F := Ideal)) W (Proc.devRef .tc main_v0_0) = pairs (W (Proc.devRef .tc main_call0_v0_0)) := by
  simp only [hostOps1]
  rw [show (fun a b => concatenate S2x81920 0 [⟨S1x81920, a⟩, ⟨S1x81920, b⟩] concatenates_S1x81920_S1x81920_S2x81920_d0) = conc from rfl]
  after_results_simp
  rfl

theorem ops_values (W : Valuation τ sig (Elt Ideal)) :
    StableHlo.after (hostOps1 (F := Ideal)) W (Proc.devRef .tc main_v0_1)
      = shapeCast S81920 (W (Proc.devRef .tc main_call0_v0_1) : FVec Ideal S8192x10 .f32) shapeCasts_S8192x10_S81920 := by
  simp only [hostOps1]
  after_results_simp
  rfl

theorem arr_inj : Function.Injective (Pipeline.arrRef spec0) := by decide

theorem tail0 (c : Dev nD) :
    Pipeline.afterTail₀ cfgs (dats m) 0 (V0 m) [hostOps1] c main_v0_0 = pairs ((dats m 0 c).arrAt 1 cfg0.N) := by
  unfold Pipeline.afterTail₀
  rw [show [hostOps1 (F := Ideal)].flatten = hostOps1 from rfl, ops_pairs]
  exact congrArg pairs (Pipeline.withArrays_arr spec0 arr_inj c (V0 m c) (fun w => (dats m 0 c).arrAt w cfg0.N) 1)

theorem tail1 (c : Dev nD) :
    Pipeline.afterTail₀ cfgs (dats m) 0 (V0 m) [hostOps1] c main_v0_1
      = shapeCast S81920 ((dats m 0 c).arrAt 2 cfg0.N : FVec Ideal S8192x10 .f32) shapeCasts_S8192x10_S81920 := by
  unfold Pipeline.afterTail₀
  rw [show [hostOps1 (F := Ideal)].flatten = hostOps1 from rfl, ops_values]
  exact congrArg (fun z : FVec Ideal S8192x10 .f32 => shapeCast S81920 z shapeCasts_S8192x10_S81920)
    (Pipeline.withArrays_arr spec0 arr_inj c (V0 m c) (fun w => (dats m 0 c).arrAt w cfg0.N) 2)

end

/-- From one argument, under the precondition, both programs end with the same two results. -/
theorem algebraic : Cert.algebraic_KernelIdeal_ReferenceIdeal := by
  intro m g m' g' hpre hagree
  refine ⟨fun c => pairs (colArr (arg m c)), fun _ => fun _ => weight, ?_, ?_⟩
  · refine (θ_run _ _ _).mono (fun r h c => ?_) (run_main m g)
    have hc := h.1 c
    refine ⟨?_, ?_, ?_⟩
    · refine (hc.2 main_v0_0 (by decide)).trans ((tail0 m c).trans ?_)
      rw [final1 m c (hpre c)]
    · refine (hc.2 main_v0_1 (by decide)).trans ((tail1 m c).trans ?_)
      rw [final2]
      rfl
    · exact (hc.1 0).trans (((dats m 0 c).arrAt_in 0 rfl _).trans ((A_eq m c 0).trans (V_main_arg0 m c)))
  · refine (θ_run _ _ _).mono (fun r h c => ?_) (Cert.ReferenceIdeal.Value.run m' g')
    have hc := h c
    refine ⟨?_, ?_, hc.2.2⟩
    · have ha : m' ((c.tc : Thread Cert.ReferenceIdeal.nD Cert.ReferenceIdeal.τ).loc Cert.ReferenceIdeal.main_arg0) = arg m c := hagree c
      refine Eq.trans ?_ (congrArg pairs (colArr_eq (arg m c))).symm
      rw [hc.1, ha]
      rfl
    · refine hc.2.1.trans (funext fun y => ?_)
      rw [eq_ix1 y]
      exact values_at m' c (y 0)

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_distinct_top
public import proofs.«01_k».proof.Proof.End
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_distinct_top.Gen.facts,
    Cert.Hand.quiescent_kernel, Cert.Hand.quiescent_kernel_pre, Cert.Hand.quiescent_copy, Cert.Hand.quiescent_reference,
    Cert.Hand.quiescent_reference_pre, trivial, Cert.Hand.algebraic⟩

end Cert.Proof

end
